-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x4096 : Shape := ⟨3, ![4, 1024, 4096]⟩
abbrev S4096x4096 : Shape := ⟨2, ![4096, 4096]⟩
abbrev S4096x2048 : Shape := ⟨2, ![4096, 2048]⟩
abbrev S128x4096 : Shape := ⟨2, ![128, 4096]⟩
abbrev S128x2048 : Shape := ⟨2, ![128, 2048]⟩
abbrev S128x512 : Shape := ⟨2, ![128, 512]⟩
abbrev S512x128 : Shape := ⟨2, ![512, 128]⟩
abbrev S512x1x128 : Shape := ⟨3, ![512, 1, 128]⟩
abbrev S512x8x128 : Shape := ⟨3, ![512, 8, 128]⟩
abbrev S4096x128 : Shape := ⟨2, ![4096, 128]⟩
abbrev S4096x1 : Shape := ⟨2, ![4096, 1]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S128x2x2x8x128 : Shape := ⟨5, ![128, 2, 2, 8, 128]⟩
abbrev S128x1x1x8x128 : Shape := ⟨5, ![128, 1, 1, 8, 128]⟩
abbrev S128x8x128 : Shape := ⟨3, ![128, 8, 128]⟩
abbrev S128x1x8x128 : Shape := ⟨4, ![128, 1, 8, 128]⟩
abbrev S128x4x8x128 : Shape := ⟨4, ![128, 4, 8, 128]⟩
abbrev S64x2x2x16x128 : Shape := ⟨5, ![64, 2, 2, 16, 128]⟩
abbrev S64x1x1x16x128 : Shape := ⟨5, ![64, 1, 1, 16, 128]⟩
abbrev S64x16x128 : Shape := ⟨3, ![64, 16, 128]⟩
abbrev S64x1x16x128 : Shape := ⟨4, ![64, 1, 16, 128]⟩
abbrev S64x4x16x128 : Shape := ⟨4, ![64, 4, 16, 128]⟩
abbrev S32x2x2x32x128 : Shape := ⟨5, ![32, 2, 2, 32, 128]⟩
abbrev S32x1x1x32x128 : Shape := ⟨5, ![32, 1, 1, 32, 128]⟩
abbrev S32x32x128 : Shape := ⟨3, ![32, 32, 128]⟩
abbrev S32x1x32x128 : Shape := ⟨4, ![32, 1, 32, 128]⟩
abbrev S32x4x32x128 : Shape := ⟨4, ![32, 4, 32, 128]⟩
abbrev S16x2x2x64x128 : Shape := ⟨5, ![16, 2, 2, 64, 128]⟩
abbrev S16x1x1x64x128 : Shape := ⟨5, ![16, 1, 1, 64, 128]⟩
abbrev S16x64x128 : Shape := ⟨3, ![16, 64, 128]⟩
abbrev S16x1x64x128 : Shape := ⟨4, ![16, 1, 64, 128]⟩
abbrev S16x4x64x128 : Shape := ⟨4, ![16, 4, 64, 128]⟩
abbrev S8x2x2x128x128 : Shape := ⟨5, ![8, 2, 2, 128, 128]⟩
abbrev S8x1x1x128x128 : Shape := ⟨5, ![8, 1, 1, 128, 128]⟩
abbrev S8x128x128 : Shape := ⟨3, ![8, 128, 128]⟩
abbrev S8x1x128x128 : Shape := ⟨4, ![8, 1, 128, 128]⟩
abbrev S8x4x128x128 : Shape := ⟨4, ![8, 4, 128, 128]⟩
abbrev S4x2x2x256x128 : Shape := ⟨5, ![4, 2, 2, 256, 128]⟩
abbrev S4x1x1x256x128 : Shape := ⟨5, ![4, 1, 1, 256, 128]⟩
abbrev S4x256x128 : Shape := ⟨3, ![4, 256, 128]⟩
abbrev S4x1x256x128 : Shape := ⟨4, ![4, 1, 256, 128]⟩
abbrev S4x4x256x128 : Shape := ⟨4, ![4, 4, 256, 128]⟩
abbrev S2x2x2x512x128 : Shape := ⟨5, ![2, 2, 2, 512, 128]⟩
abbrev S2x1x1x512x128 : Shape := ⟨5, ![2, 1, 1, 512, 128]⟩
abbrev S2x512x128 : Shape := ⟨3, ![2, 512, 128]⟩
abbrev S2x1x512x128 : Shape := ⟨4, ![2, 1, 512, 128]⟩
abbrev S2x4x512x128 : Shape := ⟨4, ![2, 4, 512, 128]⟩
abbrev S1x2x2x1024x128 : Shape := ⟨5, ![1, 2, 2, 1024, 128]⟩
abbrev S1x1x1x1024x128 : Shape := ⟨5, ![1, 1, 1, 1024, 128]⟩
abbrev S1x1024x128 : Shape := ⟨3, ![1, 1024, 128]⟩
abbrev S1x1x1024x128 : Shape := ⟨4, ![1, 1, 1024, 128]⟩
abbrev S1x4x1024x128 : Shape := ⟨4, ![1, 4, 1024, 128]⟩
abbrev S1x128 : Shape := ⟨2, ![1, 128]⟩
abbrev S4095x128 : Shape := ⟨2, ![4095, 128]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S2x256x128 : Shape := ⟨3, ![2, 256, 128]⟩
abbrev S256x128 : Shape := ⟨2, ![256, 128]⟩
abbrev S256x1x128 : Shape := ⟨3, ![256, 1, 128]⟩
abbrev S2048x128 : Shape := ⟨2, ![2048, 128]⟩
abbrev S1x2x2x512x128 : Shape := ⟨5, ![1, 2, 2, 512, 128]⟩
abbrev S1x1x1x512x128 : Shape := ⟨5, ![1, 1, 1, 512, 128]⟩
abbrev S1x512x128 : Shape := ⟨3, ![1, 512, 128]⟩
abbrev S1x1x512x128 : Shape := ⟨4, ![1, 1, 512, 128]⟩
abbrev S1x4x512x128 : Shape := ⟨4, ![1, 4, 512, 128]⟩
abbrev S4x2x2x128x128 : Shape := ⟨5, ![4, 2, 2, 128, 128]⟩
abbrev S4x1x1x128x128 : Shape := ⟨5, ![4, 1, 1, 128, 128]⟩
abbrev S4x128x128 : Shape := ⟨3, ![4, 128, 128]⟩
abbrev S4x1x128x128 : Shape := ⟨4, ![4, 1, 128, 128]⟩
abbrev S4x4x128x128 : Shape := ⟨4, ![4, 4, 128, 128]⟩
abbrev S16x2x2x32x128 : Shape := ⟨5, ![16, 2, 2, 32, 128]⟩
abbrev S16x1x1x32x128 : Shape := ⟨5, ![16, 1, 1, 32, 128]⟩
abbrev S16x32x128 : Shape := ⟨3, ![16, 32, 128]⟩
abbrev S16x1x32x128 : Shape := ⟨4, ![16, 1, 32, 128]⟩
abbrev S16x4x32x128 : Shape := ⟨4, ![16, 4, 32, 128]⟩
abbrev S64x2x2x8x128 : Shape := ⟨5, ![64, 2, 2, 8, 128]⟩
abbrev S64x1x1x8x128 : Shape := ⟨5, ![64, 1, 1, 8, 128]⟩
abbrev S64x8x128 : Shape := ⟨3, ![64, 8, 128]⟩
abbrev S64x1x8x128 : Shape := ⟨4, ![64, 1, 8, 128]⟩
abbrev S64x4x8x128 : Shape := ⟨4, ![64, 4, 8, 128]⟩
abbrev S128x256 : Shape := ⟨2, ![128, 256]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x1024x4096 : Shape := ⟨3, ![4, 1024, 4096]⟩
abbrev S4x1024x2048 : Shape := ⟨3, ![4, 1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4x1024x2048, .f32⟩
  | .hbm, ⟨2, _⟩ => ⟨S4x1024x2048, .i32⟩
  | .hbm, ⟨3, _⟩ => ⟨S4096x2048, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Net.lean ====
/- The mathematics of the sort along a row, with no array in sight: a row is a function of the position, a stage
   exchanges the positions at a power of two's distance with the greater entry always to the earlier one, and a
   level's direction is a sign on the entries. The stages between the signs are the library's bitonic sort. -/
module

public import Idealize.ShloMosaic.Lib.SortNet.Sorts
public import Idealize.ShloMosaic.PureOps.Ideal
public import Mathlib.Data.EReal.Operations

@[expose] public section

namespace Cert.RowSort

open Idealize.ShloMosaic Idealize.ShloMosaic.SortNet

/-- One stage at distance `2 ^ s` on a row: the greater of two partners goes to the position whose bit `s` is clear. -/
noncomputable def st (s : ℕ) (v : ℕ → EReal) (j : ℕ) : EReal :=
  if j / 2 ^ s % 2 = 0 then max (v j) (v (j + 2 ^ s)) else min (v (j - 2 ^ s)) (v j)

/-- The sign of a position at bit `l`: one where the bit is clear, minus one where it is set. -/
noncomputable def sg (l : ℕ) (j : ℕ) : EReal := if j / 2 ^ l % 2 = 0 then 1 else -1

theorem sg_mul_self (l j : ℕ) : sg l j * sg l j = 1 := by
  unfold sg
  split <;> simp

theorem and_two_pow_iff (j s : ℕ) : j &&& 2 ^ s = 0 ↔ j / 2 ^ s % 2 = 0 := by
  rw [and_two_pow_eq_zero_iff_testBit, Nat.testBit_eq_decide_div_mod_eq, decide_eq_false_iff_not]
  omega

/-- A common sign passes through the two halves of an exchange, and minus one turns them round. -/
theorem max_mul_sg (l j : ℕ) (a b : EReal) :
    max (a * sg l j) (b * sg l j) = (if (decide (j &&& 2 ^ l = 0) == true) = true then max a b else min a b) * sg l j
      ∧ min (a * sg l j) (b * sg l j)
        = (if (decide (j &&& 2 ^ l = 0) == true) = true then min a b else max a b) * sg l j := by
  by_cases h : j / 2 ^ l % 2 = 0
  · have h' := (and_two_pow_iff j l).2 h
    simp [sg, h, h']
  · have h' : ¬j &&& 2 ^ l = 0 := fun e => h ((and_two_pow_iff j l).1 e)
    have hm : max (-a) (-b) = -min a b := by
      rcases le_total a b with hab | hab
      · rw [min_eq_left hab, max_eq_left (EReal.neg_le_neg_iff.2 hab)]
      · rw [min_eq_right hab, max_eq_right (EReal.neg_le_neg_iff.2 hab)]
    have hn : min (-a) (-b) = -max a b := by
      rcases le_total a b with hab | hab
      · rw [max_eq_right hab, min_eq_right (EReal.neg_le_neg_iff.2 hab)]
      · rw [max_eq_left hab, min_eq_left (EReal.neg_le_neg_iff.2 hab)]
    have hd : ¬(decide (j &&& 2 ^ l = 0) == true) = true := by
      rw [decide_eq_false h']
      decide
    rw [if_neg hd, if_neg hd, show sg l j = -1 from if_neg h]
    simp only [mul_neg, mul_one, hm, hn, and_self]

/-- Partners at a bit other than `l` have one sign at bit `l`, and one direction. -/
theorem partner_bit {s l : ℕ} (hs : s < 12) (hl : s ≠ l) (i : Fin (2 ^ 12)) :
    ((partner 12 s i).val &&& 2 ^ l = 0 ↔ i.val &&& 2 ^ l = 0) ∧ sg l (partner 12 s i).val = sg l i.val := by
  have e : ((partner 12 s i).val &&& 2 ^ l = 0 ↔ i.val &&& 2 ^ l = 0) := by
    rw [and_two_pow_eq_zero_iff_testBit, and_two_pow_eq_zero_iff_testBit, partner_val hs, Nat.testBit_xor,
      Nat.testBit_two_pow]
    simp [hl]
  refine ⟨e, ?_⟩
  have e' := e
  rw [and_two_pow_iff, and_two_pow_iff] at e'
  unfold sg
  simp only [e']

/-- The stage on a row whose entries carry the signs of bit `l` is the network's stage of that level, the signs kept. -/
theorem st_signed {s l : ℕ} (hs : s < l) (hs' : s < 12) (v : ℕ → EReal) (u : Fin (2 ^ 12) → EReal)
    (h : ∀ j : Fin (2 ^ 12), v j.val = u j * sg l j.val) (j : Fin (2 ^ 12)) :
    st s v j.val = Network.apply (stage 12 s fun i => decide (i.val &&& 2 ^ l = 0) == true) u j * sg l j.val := by
  by_cases hj : j.val &&& 2 ^ s = 0
  · have hp := partner_bit hs' hs.ne j
    have hv := partner_val_of_clear hs' j hj
    rw [(apply_stage hs' _ u j hj).1]
    unfold st
    rw [if_pos ((and_two_pow_iff _ _).1 hj), ← hv, h j, h (partner 12 s j), hp.2]
    exact (max_mul_sg l j.val _ _).1
  · have hp := partner_bit hs' hs.ne j
    have hi := partner_and_of_set hs' j hj
    have hv := partner_val_of_set hs' j hj
    have ha := (apply_stage hs' (fun i => decide (i.val &&& 2 ^ l = 0) == true) u (partner 12 s j) hi).2
    rw [partner_partner hs'] at ha
    rw [ha]
    unfold st
    rw [if_neg (fun e => hj ((and_two_pow_iff _ _).2 e)), ← hv.2, h j, h (partner 12 s j), hp.2]
    have := (max_mul_sg l j.val (u (partner 12 s j)) (u j)).2
    simp only [hp.1]
    exact this

/-- The stages at distances `2 ^ (k - 1)` down to one. -/
noncomputable def run : ℕ → (ℕ → EReal) → ℕ → EReal
  | 0, v => v
  | k + 1, v => run k (st k v)

/-- A run of stages on a row with the signs of bit `l`. -/
theorem run_signed {l : ℕ} (k : ℕ) (hk : k ≤ l) (hk' : k ≤ 12) (v : ℕ → EReal) (u : Fin (2 ^ 12) → EReal)
    (h : ∀ j : Fin (2 ^ 12), v j.val = u j * sg l j.val) (j : Fin (2 ^ 12)) :
    run k v j.val = Network.apply ((List.range k).reverse.flatMap fun s => stage 12 s fun i => decide (i.val &&& 2 ^ l = 0) == true) u j
      * sg l j.val := by
  induction k generalizing v u with
  | zero => exact h j
  | succ k ih =>
    rw [List.range_succ, List.reverse_append, List.reverse_singleton, List.singleton_append, List.flatMap_cons,
      Network.apply_append]
    exact ih (by omega) (by omega) (st k v) _ (st_signed (by omega) (by omega) v u h)

/-- The row after `l` levels, with the signs of the next level: what the sign products between the levels leave. -/
noncomputable def lev : ℕ → (ℕ → EReal) → ℕ → EReal
  | 0, v => fun j => v j * sg 1 j
  | l + 1, v => fun j => run (l + 1) (lev l v) j * (sg (l + 1) j * sg (l + 2) j)

theorem lev_signed (l : ℕ) (hl : l ≤ 12) (v : ℕ → EReal) (j : Fin (2 ^ 12)) :
    lev l v j.val = Network.apply (levelsNet 12 true l) (fun i => v i.val) j * sg (l + 1) j.val := by
  induction l generalizing j with
  | zero => rfl
  | succ l ih =>
    rw [levelsNet_succ, Network.apply_append]
    have := run_signed (l := l + 1) (l + 1) le_rfl hl (lev l v) _ (ih (by omega)) j
    show run (l + 1) (lev l v) j.val * (sg (l + 1) j.val * sg (l + 2) j.val) = _
    rw [this, mul_assoc, ← mul_assoc (sg (l + 1) j.val), sg_mul_self, one_mul]
    rfl

/-- The whole sort of a row: eleven levels, the last signs taken off again, and the twelve stages of the last level. -/
noncomputable def sorted (v : ℕ → EReal) : ℕ → EReal :=
  run 12 fun j => run 11 (lev 10 v) j * sg 11 j

theorem sorted_eq (v : ℕ → EReal) (j : Fin (2 ^ 12)) :
    sorted v j.val = Network.apply (sortNet 12 true) (fun i => v i.val) j := by
  have h12 : ∀ j : Fin (2 ^ 12), sg 12 j.val = 1 := fun j => by
    unfold sg
    rw [Nat.div_eq_of_lt j.isLt]
    rfl
  have h := lev_signed 11 (by decide) v
  have h' : ∀ j : Fin (2 ^ 12), run 11 (lev 10 v) j.val * sg 11 j.val
      = Network.apply (levelsNet 12 true 11) (fun i => v i.val) j * sg 12 j.val := fun j => by
    rw [← h j]
    show _ = run 11 (lev 10 v) j.val * (sg 11 j.val * sg 12 j.val)
    rw [h12, mul_one]
  have := run_signed (l := 12) 12 le_rfl le_rfl (fun j => run 11 (lev 10 v) j * sg 11 j) _ h' j
  rw [h12, mul_one] at this
  rw [sortNet_eq_levelsNet, levelsNet_succ, Network.apply_append]
  exact this

/-- A sorted row descends. -/
theorem sorted_antitone (v : ℕ → EReal) : Antitone fun j : Fin (2 ^ 12) => sorted v j.val := by
  simp only [sorted_eq]
  exact sortNet_apply_antitone 12 _

/-- A sorted row is the row's entries in another order. -/
theorem sorted_perm (v : ℕ → EReal) :
    ∃ σ : Equiv.Perm (Fin (2 ^ 12)), ∀ j : Fin (2 ^ 12), sorted v j.val = v (σ j).val := by
  obtain ⟨σ, h⟩ := Network.exists_perm (sortNet 12 true) (fun i : Fin (2 ^ 12) => v i.val)
  exact ⟨σ, fun j => (sorted_eq v j).trans (congrFun h j)⟩

end Cert.RowSort
-- ==== Proof.Steps.lean ====
/- The printed pieces of the kernel read as steps on rows. A register array holds its 128 rows along the lanes; the
   array's own rows are the positions of a sort, in an order `φ` that names the position each array row holds. Every
   printed step of the kernel (a reshape to planes, a compare of two planes, the planes put together again) then is
   one or two stages of Net.lean on every lane. -/
module

public import proofs.«01_k».proof.Proof.Net
public import Idealize.ShloMosaic.Lib.Pipeline.Value
public import Idealize.ShloMosaic.Lib.ValueIdxCore

@[expose] public section

namespace Cert.RowSort

open Idealize.ShloMosaic Idealize.ShloMosaic.ValueIdx

/-- The array's row `q` holds position `φ q` of every lane's row `v`. -/
def Lay {n : ℕ} (x : FVec Ideal ⟨2, ![n, 128]⟩ .f32) (φ : ℕ → ℕ) (v : Fin 128 → ℕ → EReal) : Prop :=
  ∀ (q : Fin n) (l : Fin 128), x (ix2 q l) = v l (φ q.val)

/-- The same of a box of planes: plane `i`'s row `c` holds position `χ i c`. -/
def Lay3 {a m : ℕ} (x : FVec Ideal ⟨3, ![a, m, 128]⟩ .f32) (χ : ℕ → ℕ → ℕ) (v : Fin 128 → ℕ → EReal) : Prop :=
  ∀ (i : Fin a) (c : Fin m) (l : Fin 128), x (ix3 i c l) = v l (χ i.val c.val)

theorem Lay.congr {n : ℕ} {x : FVec Ideal ⟨2, ![n, 128]⟩ .f32} {φ : ℕ → ℕ} {v w : Fin 128 → ℕ → EReal} (h : Lay x φ v)
    (e : ∀ (q : Fin n) (l : Fin 128), v l (φ q.val) = w l (φ q.val)) : Lay x φ w := fun q l => (h q l).trans (e q l)

/-! ### A compare of two arrays whose positions are partners -/

theorem st_low {s j : ℕ} (v : ℕ → EReal) (h : j / 2 ^ s % 2 = 0) : st s v j = max (v j) (v (j + 2 ^ s)) := if_pos h

theorem st_high {s j : ℕ} (v : ℕ → EReal) (h : j / 2 ^ s % 2 = 0) : st s v (j + 2 ^ s) = min (v j) (v (j + 2 ^ s)) := by
  unfold st
  rw [if_neg, Nat.add_sub_cancel]
  rw [Nat.add_div_right _ (Nat.two_pow_pos s)]
  omega

section compare

variable {n a m s : ℕ} {v : Fin 128 → ℕ → EReal}

/-- Position `j` has bit `s` clear and `j'` is its partner. -/
def Pair (s j j' : ℕ) : Prop := j / 2 ^ s % 2 = 0 ∧ j' = j + 2 ^ s

theorem Lay.max {x y : FVec Ideal ⟨2, ![n, 128]⟩ .f32} {φ ψ : ℕ → ℕ} (s : ℕ) (hx : Lay x φ v) (hy : Lay y ψ v)
    (h : ∀ q < n, Pair s (φ q) (ψ q)) : Lay (maximumf x y) φ fun l => st s (v l) := fun q l => by
  have e := h q.val q.isLt
  show Max.max (x (ix2 q l)) (y (ix2 q l)) = _
  rw [hx q l, hy q l, e.2]
  exact (st_low _ e.1).symm

theorem Lay.min {x y : FVec Ideal ⟨2, ![n, 128]⟩ .f32} {φ ψ : ℕ → ℕ} (s : ℕ) (hx : Lay x φ v) (hy : Lay y ψ v)
    (h : ∀ q < n, Pair s (φ q) (ψ q)) : Lay (minimumf x y) ψ fun l => st s (v l) := fun q l => by
  have e := h q.val q.isLt
  show Min.min (x (ix2 q l)) (y (ix2 q l)) = _
  rw [hx q l, hy q l, e.2]
  exact (st_high _ e.1).symm

theorem Lay3.max {x y : FVec Ideal ⟨3, ![a, m, 128]⟩ .f32} {φ ψ : ℕ → ℕ → ℕ} (s : ℕ) (hx : Lay3 x φ v) (hy : Lay3 y ψ v)
    (h : ∀ i < a, ∀ c < m, Pair s (φ i c) (ψ i c)) : Lay3 (maximumf x y) φ fun l => st s (v l) := fun i c l => by
  have e := h i.val i.isLt c.val c.isLt
  show Max.max (x (ix3 i c l)) (y (ix3 i c l)) = _
  rw [hx i c l, hy i c l, e.2]
  exact (st_low _ e.1).symm

theorem Lay3.min {x y : FVec Ideal ⟨3, ![a, m, 128]⟩ .f32} {φ ψ : ℕ → ℕ → ℕ} (s : ℕ) (hx : Lay3 x φ v) (hy : Lay3 y ψ v)
    (h : ∀ i < a, ∀ c < m, Pair s (φ i c) (ψ i c)) : Lay3 (minimumf x y) ψ fun l => st s (v l) := fun i c l => by
  have e := h i.val i.isLt c.val c.isLt
  show Min.min (x (ix3 i c l)) (y (ix3 i c l)) = _
  rw [hx i c l, hy i c l, e.2]
  exact (st_high _ e.1).symm

end compare

/-! ### Planes taken out and put together -/

section planes

variable {n a m : ℕ} {v : Fin 128 → ℕ → EReal} {φ : ℕ → ℕ}

theorem row_lt {N b i c : ℕ} (hn : n = a * N * m) (hi : i < a) (hb : b < N) (hc : c < m) : (i * N + b) * m + c < n := by
  subst hn
  have h1 : i * N + b + 1 ≤ a * N := by nlinarith
  have h2 := Nat.mul_le_mul_right m h1
  rw [Nat.add_mul, Nat.one_mul] at h2
  omega

/-- One of two planes of every pair of runs of `m` rows. -/
theorem plane2 {x : FVec Ideal ⟨2, ![n, 128]⟩ .f32} (hn : n = a * 2 * m) (hx : Lay x φ v) (b : ℕ) (hb : b < 2)
    {h1 : (⟨2, ![n, 128]⟩ : Shape).ShapeCasts ⟨4, ![a, 2, m, 128]⟩}
    {h2 : (⟨4, ![a, 2, m, 128]⟩ : Shape).Slices ![0, b, 0, 0] ⟨4, ![a, 1, m, 128]⟩}
    {h3 : (⟨4, ![a, 1, m, 128]⟩ : Shape).ShapeCasts ⟨3, ![a, m, 128]⟩} :
    Lay3 (shapeCast ⟨3, ![a, m, 128]⟩ (extractStridedSlice ⟨4, ![a, 1, m, 128]⟩ ![0, b, 0, 0]
      (shapeCast ⟨4, ![a, 2, m, 128]⟩ x h1) h2) h3) (fun i c => φ ((i * 2 + b) * m + c)) v := fun i c l => by
  refine (shapeCast_apply _ h3 _ (ix4 i 0 c l) ?_).trans ?_
  · rw [Shape.rowMajor_val_four, Shape.rowMajor_val_three]
    show (((i.val * 1 + 0) * m + c.val) * 128 + l.val) = (i.val * m + c.val) * 128 + l.val
    rw [Nat.mul_one, Nat.add_zero]
  refine (extractStridedSlice_apply _ _ h2 _ (ix4 i ⟨b, hb⟩ c l) ?_).trans ?_
  · intro d
    match d with
    | ⟨0, _⟩ => exact (Nat.zero_add _).symm
    | ⟨1, _⟩ => rfl
    | ⟨2, _⟩ => exact (Nat.zero_add _).symm
    | ⟨3, _⟩ => exact (Nat.zero_add _).symm
  refine (shapeCast_apply x h1 _ (ix2 ⟨(i.val * 2 + b) * m + c.val, row_lt hn i.isLt hb c.isLt⟩ l) ?_).trans (hx _ _)
  rw [Shape.rowMajor_val_two, Shape.rowMajor_val_four]
  rfl

/-- One of four planes of every four runs of `m` rows. -/
theorem plane4 {x : FVec Ideal ⟨2, ![n, 128]⟩ .f32} (hn : n = a * 4 * m) (hx : Lay x φ v) (b c' : ℕ) (hb : b < 2) (hc : c' < 2)
    {h1 : (⟨2, ![n, 128]⟩ : Shape).ShapeCasts ⟨5, ![a, 2, 2, m, 128]⟩}
    {h2 : (⟨5, ![a, 2, 2, m, 128]⟩ : Shape).Slices ![0, b, c', 0, 0] ⟨5, ![a, 1, 1, m, 128]⟩}
    {h3 : (⟨5, ![a, 1, 1, m, 128]⟩ : Shape).ShapeCasts ⟨3, ![a, m, 128]⟩} :
    Lay3 (shapeCast ⟨3, ![a, m, 128]⟩ (extractStridedSlice ⟨5, ![a, 1, 1, m, 128]⟩ ![0, b, c', 0, 0]
      (shapeCast ⟨5, ![a, 2, 2, m, 128]⟩ x h1) h2) h3) (fun i c => φ ((i * 4 + (b * 2 + c')) * m + c)) v := fun i c l => by
  refine (shapeCast_apply _ h3 _ (ix5 i 0 0 c l) ?_).trans ?_
  · rw [Shape.rowMajor_val_five, Shape.rowMajor_val_three]
    show ((((i.val * 1 + 0) * 1 + 0) * m + c.val) * 128 + l.val) = (i.val * m + c.val) * 128 + l.val
    simp only [Nat.mul_one, Nat.add_zero]
  refine (extractStridedSlice_apply _ _ h2 _ (ix5 i ⟨b, hb⟩ ⟨c', hc⟩ c l) ?_).trans ?_
  · intro d
    match d with
    | ⟨0, _⟩ => exact (Nat.zero_add _).symm
    | ⟨1, _⟩ => rfl
    | ⟨2, _⟩ => rfl
    | ⟨3, _⟩ => exact (Nat.zero_add _).symm
    | ⟨4, _⟩ => exact (Nat.zero_add _).symm
  refine (shapeCast_apply x h1 _ (ix2 ⟨(i.val * 4 + (b * 2 + c')) * m + c.val, row_lt hn i.isLt (by omega) c.isLt⟩ l) ?_).trans
    (hx _ _)
  rw [Shape.rowMajor_val_two, Shape.rowMajor_val_five]
  show ((i.val * 4 + (b * 2 + c')) * m + c.val) * 128 + l.val = (((i.val * 2 + b) * 2 + c') * m + c.val) * 128 + l.val
  rw [show i.val * 4 + (b * 2 + c') = (i.val * 2 + b) * 2 + c' by ring]

/-- `N` boxes of planes stacked in turn. -/
theorem stack {N : ℕ} (hn : n = a * N * m) (y : Fin N → FVec Ideal ⟨3, ![a, m, 128]⟩ .f32)
    (hy : ∀ b : Fin N, Lay3 (y b) (fun i c => φ ((i * N + b.val) * m + c)) v)
    {h1 : (⟨3, ![a, m, 128]⟩ : Shape).ShapeCasts ⟨4, ![a, 1, m, 128]⟩}
    {h2 : Shape.Concatenates ((List.ofFn fun b : Fin N =>
      (⟨⟨4, ![a, 1, m, 128]⟩, shapeCast ⟨4, ![a, 1, m, 128]⟩ (y b) h1⟩ : (s : Shape) × (s.Idx → Ideal .f32))).map (·.1))
      ⟨4, ![a, N, m, 128]⟩ 1}
    {h3 : (⟨4, ![a, N, m, 128]⟩ : Shape).ShapeCasts ⟨2, ![n, 128]⟩} :
    Lay (shapeCast ⟨2, ![n, 128]⟩ (concatenate ⟨4, ![a, N, m, 128]⟩ 1 (List.ofFn fun b : Fin N =>
      (⟨⟨4, ![a, 1, m, 128]⟩, shapeCast ⟨4, ![a, 1, m, 128]⟩ (y b) h1⟩ : (s : Shape) × (s.Idx → Ideal .f32))) h2) h3) φ v := by
  intro q l
  have hq : q.val < a * N * m := hn ▸ q.isLt
  have hm : 0 < m := Nat.pos_of_ne_zero fun e => by subst e; omega
  have hN : 0 < N := Nat.pos_of_ne_zero fun e => by subst e; simp at hq
  have hd : q.val / m < a * N := Nat.div_lt_of_lt_mul (by rwa [Nat.mul_comm] at hq)
  have hi : q.val / m / N < a := Nat.div_lt_of_lt_mul (by rwa [Nat.mul_comm] at hd)
  have hb : q.val / m % N < N := Nat.mod_lt _ hN
  have hc : q.val % m < m := Nat.mod_lt _ hm
  have e1 : q.val / m / N * N + q.val / m % N = q.val / m := by rw [Nat.mul_comm]; exact Nat.div_add_mod _ _
  have e2 : q.val / m * m + q.val % m = q.val := by rw [Nat.mul_comm]; exact Nat.div_add_mod _ _
  refine (shapeCast_apply _ h3 _ (ix4 (⟨_, hi⟩ : Fin a) (⟨_, hb⟩ : Fin N) (⟨_, hc⟩ : Fin m) l) ?_).trans ?_
  · rw [Shape.rowMajor_val_two, Shape.rowMajor_val_four]
    show ((q.val / m / N * N + q.val / m % N) * m + q.val % m) * 128 + l.val = q.val * 128 + l.val
    rw [e1, e2]
  refine (concatenate_ofFn_unit_apply (t := ⟨4, ![a, N, m, 128]⟩) (s₁ := ⟨4, ![a, 1, m, 128]⟩) (1 : Fin 4)
    (fun b => shapeCast ⟨4, ![a, 1, m, 128]⟩ (y b) h1) h2 rfl rfl
    (ix4 (⟨_, hi⟩ : Fin a) (⟨_, hb⟩ : Fin N) (⟨_, hc⟩ : Fin m) l) ⟨_, hb⟩ rfl
    (ix4 (⟨_, hi⟩ : Fin a) 0 (⟨_, hc⟩ : Fin m) l) ?_).trans ?_
  · intro d hd
    match d with
    | ⟨0, _⟩ => rfl
    | ⟨1, _⟩ => exact absurd rfl hd
    | ⟨2, _⟩ => rfl
    | ⟨3, _⟩ => rfl
  refine (shapeCast_apply _ h1 _ (ix3 (⟨_, hi⟩ : Fin a) (⟨_, hc⟩ : Fin m) l) ?_).trans ((hy _ _ _ _).trans ?_)
  · rw [Shape.rowMajor_val_four, Shape.rowMajor_val_three]
    show (q.val / m / N * m + q.val % m) * 128 + l.val = (((q.val / m / N * 1 + 0) * m + q.val % m) * 128 + l.val)
    rw [Nat.mul_one, Nat.add_zero]
  · show v l (φ ((q.val / m / N * N + q.val / m % N) * m + q.val % m)) = _
    rw [e1, e2]

end planes

end Cert.RowSort
-- ==== Proof.Rows.lean ====
/- The kernel's printed row steps, one theorem per kind of step: a pair of planes exchanged (one stage), two pairs
   exchanged twice (two stages), the sign products, the eight planes of the interleaved rows, the exchange of
   neighbouring rows, and the transposes in and out. -/
module

public import proofs.«01_k».proof.Proof.Steps
public import Idealize.ShloMosaic.Lib.Routing.Words

@[expose] public section

namespace Cert.RowSort

open Idealize.ShloMosaic Idealize.ShloMosaic.ValueIdx

/-- Eight interleaved runs: row `q` is number `q / 8` of run `q % 8`, which begins at position `B (q % 8)`. -/
def pos (B : ℕ → ℕ) (q : ℕ) : ℕ := B (q % 8) + q / 8

/-- Rows `8 * 2 ^ s` apart hold positions `2 ^ s` apart. -/
theorem pos_pair {B : ℕ → ℕ} {s : ℕ} (hB : ∀ h, 2 ^ (s + 1) ∣ B h) (k c : ℕ) (hc : c < 8 * 2 ^ s) (q q' : ℕ)
    (hq : q = (k * 2) * (8 * 2 ^ s) + c) (hq' : q' = q + 8 * 2 ^ s) : Pair s (pos B q) (pos B q') := by
  have hpos := Nat.two_pow_pos s
  have e8 : q = c + 8 * (k * 2 * 2 ^ s) := by rw [hq]; ring
  have e8' : q' = c + 8 * ((k * 2 + 1) * 2 ^ s) := by rw [hq', e8]; ring
  have m1 : q % 8 = c % 8 := by omega
  have m2 : q' % 8 = c % 8 := by omega
  have d1 : q / 8 = k * 2 * 2 ^ s + c / 8 := by omega
  have d2 : q' / 8 = (k * 2 + 1) * 2 ^ s + c / 8 := by omega
  have hc8 : c / 8 < 2 ^ s := by omega
  obtain ⟨t, ht⟩ := hB (c % 8)
  unfold Pair pos
  rw [m1, m2, d1, d2, ht]
  constructor
  · rw [show 2 ^ (s + 1) * t + (k * 2 * 2 ^ s + c / 8) = c / 8 + 2 ^ s * (2 * (t + k)) by ring,
      Nat.add_mul_div_left _ _ hpos, Nat.div_eq_of_lt hc8]
    omega
  · ring

section steps

variable {n a m : ℕ} {v : Fin 128 → ℕ → EReal}

/-- Two boxes of planes stacked in turn. -/
theorem stack2 {φ : ℕ → ℕ} (hn : n = a * 2 * m) {y0 y1 : FVec Ideal ⟨3, ![a, m, 128]⟩ .f32}
    (h0 : Lay3 y0 (fun i c => φ ((i * 2 + 0) * m + c)) v) (h1 : Lay3 y1 (fun i c => φ ((i * 2 + 1) * m + c)) v)
    {k1 : (⟨3, ![a, m, 128]⟩ : Shape).ShapeCasts ⟨4, ![a, 1, m, 128]⟩}
    {k2 : Shape.Concatenates [⟨4, ![a, 1, m, 128]⟩, ⟨4, ![a, 1, m, 128]⟩] ⟨4, ![a, 2, m, 128]⟩ 1}
    {k3 : (⟨4, ![a, 2, m, 128]⟩ : Shape).ShapeCasts ⟨2, ![n, 128]⟩} :
    Lay (shapeCast ⟨2, ![n, 128]⟩ (concatenate ⟨4, ![a, 2, m, 128]⟩ 1
      [⟨⟨4, ![a, 1, m, 128]⟩, shapeCast ⟨4, ![a, 1, m, 128]⟩ y0 k1⟩,
        ⟨⟨4, ![a, 1, m, 128]⟩, shapeCast ⟨4, ![a, 1, m, 128]⟩ y1 k1⟩] k2) k3) φ v :=
  stack (N := 2) hn ![y0, y1] (fun b => match b with | ⟨0, _⟩ => h0 | ⟨1, _⟩ => h1) (h1 := k1) (h2 := k2) (h3 := k3)

/-- Four boxes of planes stacked in turn. -/
theorem stack4 {φ : ℕ → ℕ} (hn : n = a * 4 * m) {y0 y1 y2 y3 : FVec Ideal ⟨3, ![a, m, 128]⟩ .f32}
    (h0 : Lay3 y0 (fun i c => φ ((i * 4 + (0 * 2 + 0)) * m + c)) v) (h1 : Lay3 y1 (fun i c => φ ((i * 4 + (0 * 2 + 1)) * m + c)) v)
    (h2 : Lay3 y2 (fun i c => φ ((i * 4 + (1 * 2 + 0)) * m + c)) v) (h3 : Lay3 y3 (fun i c => φ ((i * 4 + (1 * 2 + 1)) * m + c)) v)
    {k1 : (⟨3, ![a, m, 128]⟩ : Shape).ShapeCasts ⟨4, ![a, 1, m, 128]⟩}
    {k2 : Shape.Concatenates [⟨4, ![a, 1, m, 128]⟩, ⟨4, ![a, 1, m, 128]⟩, ⟨4, ![a, 1, m, 128]⟩, ⟨4, ![a, 1, m, 128]⟩]
      ⟨4, ![a, 4, m, 128]⟩ 1}
    {k3 : (⟨4, ![a, 4, m, 128]⟩ : Shape).ShapeCasts ⟨2, ![n, 128]⟩} :
    Lay (shapeCast ⟨2, ![n, 128]⟩ (concatenate ⟨4, ![a, 4, m, 128]⟩ 1
      [⟨⟨4, ![a, 1, m, 128]⟩, shapeCast ⟨4, ![a, 1, m, 128]⟩ y0 k1⟩,
        ⟨⟨4, ![a, 1, m, 128]⟩, shapeCast ⟨4, ![a, 1, m, 128]⟩ y1 k1⟩,
        ⟨⟨4, ![a, 1, m, 128]⟩, shapeCast ⟨4, ![a, 1, m, 128]⟩ y2 k1⟩,
        ⟨⟨4, ![a, 1, m, 128]⟩, shapeCast ⟨4, ![a, 1, m, 128]⟩ y3 k1⟩] k2) k3) φ v :=
  stack (N := 4) hn ![y0, y1, y2, y3]
    (fun b => match b with | ⟨0, _⟩ => h0 | ⟨1, _⟩ => h1 | ⟨2, _⟩ => h2 | ⟨3, _⟩ => h3) (h1 := k1) (h2 := k2) (h3 := k3)

/-- Plane `b` of two, as printed. -/
abbrev pl2 (a m : ℕ) {n : ℕ} (x : FVec Ideal ⟨2, ![n, 128]⟩ .f32) (b : ℕ)
    (h1 : (⟨2, ![n, 128]⟩ : Shape).ShapeCasts ⟨4, ![a, 2, m, 128]⟩)
    (h2 : (⟨4, ![a, 2, m, 128]⟩ : Shape).Slices ![0, b, 0, 0] ⟨4, ![a, 1, m, 128]⟩)
    (h3 : (⟨4, ![a, 1, m, 128]⟩ : Shape).ShapeCasts ⟨3, ![a, m, 128]⟩) : FVec Ideal ⟨3, ![a, m, 128]⟩ .f32 :=
  shapeCast ⟨3, ![a, m, 128]⟩ (extractStridedSlice ⟨4, ![a, 1, m, 128]⟩ ![0, b, 0, 0] (shapeCast ⟨4, ![a, 2, m, 128]⟩ x h1) h2) h3

/-- Plane `(b, c)` of four, as printed. -/
abbrev pl4 (a m : ℕ) {n : ℕ} (x : FVec Ideal ⟨2, ![n, 128]⟩ .f32) (b c : ℕ)
    (h1 : (⟨2, ![n, 128]⟩ : Shape).ShapeCasts ⟨5, ![a, 2, 2, m, 128]⟩)
    (h2 : (⟨5, ![a, 2, 2, m, 128]⟩ : Shape).Slices ![0, b, c, 0, 0] ⟨5, ![a, 1, 1, m, 128]⟩)
    (h3 : (⟨5, ![a, 1, 1, m, 128]⟩ : Shape).ShapeCasts ⟨3, ![a, m, 128]⟩) : FVec Ideal ⟨3, ![a, m, 128]⟩ .f32 :=
  shapeCast ⟨3, ![a, m, 128]⟩ (extractStridedSlice ⟨5, ![a, 1, 1, m, 128]⟩ ![0, b, c, 0, 0] (shapeCast ⟨5, ![a, 2, 2, m, 128]⟩ x h1) h2) h3

/-- One exchange of the planes of a pair: one stage. -/
theorem step1_of {φ : ℕ → ℕ} (s : ℕ) (hn : n = a * 2 * m) {x : FVec Ideal ⟨2, ![n, 128]⟩ .f32} (hx : Lay x φ v)
    (hφ : ∀ i < a, ∀ c < m, Pair s (φ ((i * 2 + 0) * m + c)) (φ ((i * 2 + 1) * m + c)))
    {h1 : (⟨2, ![n, 128]⟩ : Shape).ShapeCasts ⟨4, ![a, 2, m, 128]⟩}
    {h20 : (⟨4, ![a, 2, m, 128]⟩ : Shape).Slices ![0, 0, 0, 0] ⟨4, ![a, 1, m, 128]⟩}
    {h21 : (⟨4, ![a, 2, m, 128]⟩ : Shape).Slices ![0, 1, 0, 0] ⟨4, ![a, 1, m, 128]⟩}
    {h3 : (⟨4, ![a, 1, m, 128]⟩ : Shape).ShapeCasts ⟨3, ![a, m, 128]⟩}
    {k1 : (⟨3, ![a, m, 128]⟩ : Shape).ShapeCasts ⟨4, ![a, 1, m, 128]⟩}
    {k2 : Shape.Concatenates [⟨4, ![a, 1, m, 128]⟩, ⟨4, ![a, 1, m, 128]⟩] ⟨4, ![a, 2, m, 128]⟩ 1}
    {k3 : (⟨4, ![a, 2, m, 128]⟩ : Shape).ShapeCasts ⟨2, ![n, 128]⟩} :
    Lay (shapeCast ⟨2, ![n, 128]⟩ (concatenate ⟨4, ![a, 2, m, 128]⟩ 1
      [⟨⟨4, ![a, 1, m, 128]⟩, shapeCast ⟨4, ![a, 1, m, 128]⟩ (maximumf (pl2 a m x 0 h1 h20 h3) (pl2 a m x 1 h1 h21 h3)) k1⟩,
        ⟨⟨4, ![a, 1, m, 128]⟩, shapeCast ⟨4, ![a, 1, m, 128]⟩ (minimumf (pl2 a m x 0 h1 h20 h3) (pl2 a m x 1 h1 h21 h3)) k1⟩]
      k2) k3) φ fun l => st s (v l) :=
  stack2 hn (Lay3.max s (plane2 hn hx 0 (by decide)) (plane2 hn hx 1 (by decide)) hφ)
    (Lay3.min s (plane2 hn hx 0 (by decide)) (plane2 hn hx 1 (by decide)) hφ)

/-- Two exchanges of the planes of a group of four: the stage at the longer distance, then the one at half of it. -/
theorem step2_of {φ : ℕ → ℕ} (s : ℕ) (hn : n = a * 4 * m) {x : FVec Ideal ⟨2, ![n, 128]⟩ .f32} (hx : Lay x φ v)
    (hφ : ∀ i < a, ∀ c < m, ∀ b < 2, Pair (s + 1) (φ ((i * 4 + (0 * 2 + b)) * m + c)) (φ ((i * 4 + (1 * 2 + b)) * m + c)))
    (hψ : ∀ i < a, ∀ c < m, ∀ b < 2, Pair s (φ ((i * 4 + (b * 2 + 0)) * m + c)) (φ ((i * 4 + (b * 2 + 1)) * m + c)))
    {h1 : (⟨2, ![n, 128]⟩ : Shape).ShapeCasts ⟨5, ![a, 2, 2, m, 128]⟩}
    {h20 : (⟨5, ![a, 2, 2, m, 128]⟩ : Shape).Slices ![0, 0, 0, 0, 0] ⟨5, ![a, 1, 1, m, 128]⟩}
    {h21 : (⟨5, ![a, 2, 2, m, 128]⟩ : Shape).Slices ![0, 0, 1, 0, 0] ⟨5, ![a, 1, 1, m, 128]⟩}
    {h22 : (⟨5, ![a, 2, 2, m, 128]⟩ : Shape).Slices ![0, 1, 0, 0, 0] ⟨5, ![a, 1, 1, m, 128]⟩}
    {h23 : (⟨5, ![a, 2, 2, m, 128]⟩ : Shape).Slices ![0, 1, 1, 0, 0] ⟨5, ![a, 1, 1, m, 128]⟩}
    {h3 : (⟨5, ![a, 1, 1, m, 128]⟩ : Shape).ShapeCasts ⟨3, ![a, m, 128]⟩}
    {k1 : (⟨3, ![a, m, 128]⟩ : Shape).ShapeCasts ⟨4, ![a, 1, m, 128]⟩}
    {k2 : Shape.Concatenates [⟨4, ![a, 1, m, 128]⟩, ⟨4, ![a, 1, m, 128]⟩, ⟨4, ![a, 1, m, 128]⟩, ⟨4, ![a, 1, m, 128]⟩]
      ⟨4, ![a, 4, m, 128]⟩ 1}
    {k3 : (⟨4, ![a, 4, m, 128]⟩ : Shape).ShapeCasts ⟨2, ![n, 128]⟩} :
    Lay (shapeCast ⟨2, ![n, 128]⟩ (concatenate ⟨4, ![a, 4, m, 128]⟩ 1
      [⟨⟨4, ![a, 1, m, 128]⟩, shapeCast ⟨4, ![a, 1, m, 128]⟩ (maximumf
          (maximumf (pl4 a m x 0 0 h1 h20 h3) (pl4 a m x 1 0 h1 h22 h3))
          (maximumf (pl4 a m x 0 1 h1 h21 h3) (pl4 a m x 1 1 h1 h23 h3))) k1⟩,
        ⟨⟨4, ![a, 1, m, 128]⟩, shapeCast ⟨4, ![a, 1, m, 128]⟩ (minimumf
          (maximumf (pl4 a m x 0 0 h1 h20 h3) (pl4 a m x 1 0 h1 h22 h3))
          (maximumf (pl4 a m x 0 1 h1 h21 h3) (pl4 a m x 1 1 h1 h23 h3))) k1⟩,
        ⟨⟨4, ![a, 1, m, 128]⟩, shapeCast ⟨4, ![a, 1, m, 128]⟩ (maximumf
          (minimumf (pl4 a m x 0 0 h1 h20 h3) (pl4 a m x 1 0 h1 h22 h3))
          (minimumf (pl4 a m x 0 1 h1 h21 h3) (pl4 a m x 1 1 h1 h23 h3))) k1⟩,
        ⟨⟨4, ![a, 1, m, 128]⟩, shapeCast ⟨4, ![a, 1, m, 128]⟩ (minimumf
          (minimumf (pl4 a m x 0 0 h1 h20 h3) (pl4 a m x 1 0 h1 h22 h3))
          (minimumf (pl4 a m x 0 1 h1 h21 h3) (pl4 a m x 1 1 h1 h23 h3))) k1⟩]
      k2) k3) φ fun l => st s (st (s + 1) (v l)) :=
  have p00 := plane4 hn hx 0 0 (by decide) (by decide) (h1 := h1) (h2 := h20) (h3 := h3)
  have p01 := plane4 hn hx 0 1 (by decide) (by decide) (h1 := h1) (h2 := h21) (h3 := h3)
  have p10 := plane4 hn hx 1 0 (by decide) (by decide) (h1 := h1) (h2 := h22) (h3 := h3)
  have p11 := plane4 hn hx 1 1 (by decide) (by decide) (h1 := h1) (h2 := h23) (h3 := h3)
  have b0 := fun i hi c hc => hφ i hi c hc 0 (by decide)
  have b1 := fun i hi c hc => hφ i hi c hc 1 (by decide)
  have c0 := fun i hi c hc => hψ i hi c hc 0 (by decide)
  have c1 := fun i hi c hc => hψ i hi c hc 1 (by decide)
  stack4 hn (Lay3.max s (Lay3.max (s + 1) p00 p10 b0) (Lay3.max (s + 1) p01 p11 b1) c0)
    (Lay3.min s (Lay3.max (s + 1) p00 p10 b0) (Lay3.max (s + 1) p01 p11 b1) c0)
    (Lay3.max s (Lay3.min (s + 1) p00 p10 b0) (Lay3.min (s + 1) p01 p11 b1) c1)
    (Lay3.min s (Lay3.min (s + 1) p00 p10 b0) (Lay3.min (s + 1) p01 p11 b1) c1)

theorem pair1 {B : ℕ → ℕ} {s : ℕ} (hB : ∀ h, 2 ^ (s + 1) ∣ B h) (hm : m = 8 * 2 ^ s) :
    ∀ i < a, ∀ c < m, Pair s (pos B ((i * 2 + 0) * m + c)) (pos B ((i * 2 + 1) * m + c)) := fun i _ c hc => by
  subst hm
  exact pos_pair hB i c hc _ _ (by ring) (by ring)

theorem pair2 {B : ℕ → ℕ} {s : ℕ} (hB : ∀ h, 2 ^ (s + 2) ∣ B h) (hm : m = 8 * 2 ^ s) :
    ∀ i < a, ∀ c < m, ∀ b < 2, Pair (s + 1) (pos B ((i * 4 + (0 * 2 + b)) * m + c)) (pos B ((i * 4 + (1 * 2 + b)) * m + c)) :=
  fun i _ c hc b hb => by
  subst hm
  refine pos_pair hB i (b * (8 * 2 ^ s) + c) ?_ _ _ (by ring) (by ring)
  rw [pow_succ]
  rcases (by omega : b = 0 ∨ b = 1) with rfl | rfl <;> omega

theorem pair2' {B : ℕ → ℕ} {s : ℕ} (hB : ∀ h, 2 ^ (s + 2) ∣ B h) (hm : m = 8 * 2 ^ s) :
    ∀ i < a, ∀ c < m, ∀ b < 2, Pair s (pos B ((i * 4 + (b * 2 + 0)) * m + c)) (pos B ((i * 4 + (b * 2 + 1)) * m + c)) :=
  fun i _ c hc b _ => by
  subst hm
  exact pos_pair (fun h => (pow_dvd_pow 2 (by omega)).trans (hB h)) (i * 2 + b) c hc _ _ (by ring) (by ring)

end steps

end Cert.RowSort
-- ==== Proof.Planes.lean ====
/- The rest of the kernel's printed pieces on rows: the sign products, the eight planes of the interleaved rows, the
   exchange of neighbouring rows, and the transposes in and out. -/
module

public import proofs.«01_k».proof.Proof.Rows
public import Idealize.ShloMosaic.Lib.Routing.BitFacts

@[expose] public section

namespace Cert.RowSort

open Idealize.ShloMosaic Idealize.ShloMosaic.ValueIdx

/-! ### Signs -/

/-- A column of words holds `f q` in row `q`. -/
def Word (w : IVec ⟨2, ![4096, 1]⟩ 32) (f : ℕ → ℕ) : Prop := ∀ q : Fin 4096, w (ix2 q 0) = BitVec.ofNat 32 (f q.val)

/-- A column of signs holds `g` of the position of each row. -/
def Sg (x : FVec Ideal ⟨2, ![4096, 1]⟩ .f32) (φ : ℕ → ℕ) (g : ℕ → EReal) : Prop := ∀ q : Fin 4096, x (ix2 q 0) = g (φ q.val)

theorem one_word : (FloatOps.ofBits .f32 0x3F800000#32 : Ideal .f32) = (1 : EReal) := by
  show Ideal.ofBits .f32 0x3F800000#32 = 1
  simp [Ideal.ofBits, Ideal.ieee, -EReal.coe_mul]
  norm_num

theorem neg_one_word : (FloatOps.ofBits .f32 0xBF800000#32 : Ideal .f32) = (-1 : EReal) := by
  show Ideal.ofBits .f32 0xBF800000#32 = -1
  simp [Ideal.ofBits, Ideal.ieee, -EReal.coe_mul]
  norm_num

/-- One bit of a small word, as a mask. -/
theorem bit_mask {j l : ℕ} (hj : j < 2 ^ 32) (hl : l < 32) :
    IntOp.cmpi .eq (BitVec.ofNat 32 j &&& BitVec.ofNat 32 (2 ^ l)) 0#32 = if j / 2 ^ l % 2 = 0 then 1#1 else 0#1 := by
  have hp : (2 : ℕ) ^ l < 2 ^ 32 := Nat.pow_lt_pow_right (by decide) hl
  have e : (BitVec.ofNat 32 j &&& BitVec.ofNat 32 (2 ^ l) = 0#32) ↔ j / 2 ^ l % 2 = 0 := by
    rw [← and_two_pow_iff, ← BitVec.toNat_inj, BitVec.toNat_and, BitVec.toNat_ofNat, BitVec.toNat_ofNat,
      Nat.mod_eq_of_lt hj, Nat.mod_eq_of_lt hp]
    rfl
  show BitVec.ofBool (_ == _) = _
  by_cases h : j / 2 ^ l % 2 = 0
  · rw [if_pos h, beq_iff_eq.2 (e.2 h)]; rfl
  · rw [if_neg h, beq_eq_false_iff_ne.2 (fun h' => h (e.1 h'))]; rfl

theorem sgn_is {w k : IVec ⟨2, ![4096, 1]⟩ 32} {φ : ℕ → ℕ} (l : ℕ) (hl : l < 32) (hw : Word w φ) (hφ : ∀ q < 4096, φ q < 2 ^ 32)
    (hk : ∀ i, k i = BitVec.ofNat 32 (2 ^ l)) :
    Sg (select (cmpi .eq (andi w k) (broadcast ⟨2, ![4096, 1]⟩ 0#32))
      (broadcast ⟨2, ![4096, 1]⟩ (FloatOps.ofBits .f32 0x3F800000#32 : Ideal .f32))
      (broadcast ⟨2, ![4096, 1]⟩ (FloatOps.ofBits .f32 0xBF800000#32 : Ideal .f32))) φ (sg l) := fun q => by
  show Scalar.select (IntOp.cmpi .eq (w (ix2 q 0) &&& k (ix2 q 0)) 0#32) (FloatOps.ofBits .f32 0x3F800000#32 : Ideal .f32)
    (FloatOps.ofBits .f32 0xBF800000#32 : Ideal .f32) = _
  rw [hw q, hk, bit_mask (hφ _ q.isLt) hl, one_word, neg_one_word]
  unfold sg Scalar.select
  by_cases h : φ q.val / 2 ^ l % 2 = 0
  · rw [if_pos h, if_pos h, if_pos (by decide)]
  · rw [if_neg h, if_neg h, if_neg (by decide)]

theorem Sg.mul {x y : FVec Ideal ⟨2, ![4096, 1]⟩ .f32} {φ : ℕ → ℕ} {g g' : ℕ → EReal} (hx : Sg x φ g) (hy : Sg y φ g') :
    Sg (mulf x y) φ fun j => g j * g' j := fun q => by
  show x (ix2 q 0) * y (ix2 q 0) = _
  rw [hx q, hy q]

theorem Lay.mulSg {x : FVec Ideal ⟨2, ![4096, 128]⟩ .f32} {y : FVec Ideal ⟨2, ![4096, 1]⟩ .f32} {φ : ℕ → ℕ}
    {v : Fin 128 → ℕ → EReal} {g : ℕ → EReal} (hx : Lay x φ v) (hy : Sg y φ g)
    {h : (⟨2, ![4096, 1]⟩ : Shape).Broadcasts ⟨2, ![4096, 128]⟩} :
    Lay (mulf x (broadcastTo ⟨2, ![4096, 128]⟩ y h)) φ fun l j => v l j * g j := fun q l => by
  show x (ix2 q l) * broadcastTo ⟨2, ![4096, 128]⟩ y h (ix2 q l) = _
  rw [hx q l, broadcastTo_apply y h (ix2 q l) (ix2 q 0) (fun d => match d with | ⟨0, _⟩ => rfl | ⟨1, _⟩ => rfl), hy q]

/-! ### The eight planes of the interleaved rows -/

section planes8

variable {n r : ℕ} {φ : ℕ → ℕ} {v : Fin 128 → ℕ → EReal}

/-- One of the eight interleaved planes. -/
theorem plane8 {x : FVec Ideal ⟨2, ![r, 128]⟩ .f32} (hr : r = n * 8) (hx : Lay x φ v) (h : ℕ) (hh : h < 8)
    {h1 : (⟨2, ![r, 128]⟩ : Shape).ShapeCasts ⟨3, ![n, 8, 128]⟩}
    {h2 : (⟨3, ![n, 8, 128]⟩ : Shape).Slices ![0, h, 0] ⟨3, ![n, 1, 128]⟩}
    {h3 : (⟨3, ![n, 1, 128]⟩ : Shape).ShapeCasts ⟨2, ![n, 128]⟩} :
    Lay (shapeCast ⟨2, ![n, 128]⟩ (extractStridedSlice ⟨3, ![n, 1, 128]⟩ ![0, h, 0]
      (shapeCast ⟨3, ![n, 8, 128]⟩ x h1) h2) h3) (fun q => φ (q * 8 + h)) v := fun q l => by
  have hq := q.isLt
  refine (shapeCast_apply _ h3 _ (ix3 q 0 l) ?_).trans ?_
  · rw [Shape.rowMajor_val_three, Shape.rowMajor_val_two]
    show (q.val * 1 + 0) * 128 + l.val = q.val * 128 + l.val
    rw [Nat.mul_one, Nat.add_zero]
  refine (extractStridedSlice_apply _ _ h2 _ (ix3 q ⟨h, hh⟩ l) ?_).trans ?_
  · intro d
    match d with
    | ⟨0, _⟩ => exact (Nat.zero_add _).symm
    | ⟨1, _⟩ => rfl
    | ⟨2, _⟩ => exact (Nat.zero_add _).symm
  refine (shapeCast_apply x h1 _ (ix2 ⟨q.val * 8 + h, by omega⟩ l) ?_).trans (hx _ _)
  rw [Shape.rowMajor_val_two, Shape.rowMajor_val_three]
  rfl

/-- Eight planes interleaved. -/
theorem stack_planes (hr : r = n * 8) (y : Fin 8 → FVec Ideal ⟨2, ![n, 128]⟩ .f32)
    (hy : ∀ b : Fin 8, Lay (y b) (fun q => φ (q * 8 + b.val)) v)
    {h1 : (⟨2, ![n, 128]⟩ : Shape).ShapeCasts ⟨3, ![n, 1, 128]⟩}
    {h2 : Shape.Concatenates ((List.ofFn fun b : Fin 8 =>
      (⟨⟨3, ![n, 1, 128]⟩, shapeCast ⟨3, ![n, 1, 128]⟩ (y b) h1⟩ : (s : Shape) × (s.Idx → Ideal .f32))).map (·.1))
      ⟨3, ![n, 8, 128]⟩ 1}
    {h3 : (⟨3, ![n, 8, 128]⟩ : Shape).ShapeCasts ⟨2, ![r, 128]⟩} :
    Lay (shapeCast ⟨2, ![r, 128]⟩ (concatenate ⟨3, ![n, 8, 128]⟩ 1 (List.ofFn fun b : Fin 8 =>
      (⟨⟨3, ![n, 1, 128]⟩, shapeCast ⟨3, ![n, 1, 128]⟩ (y b) h1⟩ : (s : Shape) × (s.Idx → Ideal .f32))) h2) h3) φ v := by
  intro q l
  have hq : q.val < n * 8 := hr ▸ q.isLt
  have hi : q.val / 8 < n := by omega
  have hb : q.val % 8 < 8 := Nat.mod_lt _ (by decide)
  refine (shapeCast_apply _ h3 _ (ix3 (⟨_, hi⟩ : Fin n) (⟨_, hb⟩ : Fin 8) l) ?_).trans ?_
  · rw [Shape.rowMajor_val_two, Shape.rowMajor_val_three]
    show (q.val / 8 * 8 + q.val % 8) * 128 + l.val = q.val * 128 + l.val
    omega
  refine (concatenate_ofFn_unit_apply (t := ⟨3, ![n, 8, 128]⟩) (s₁ := ⟨3, ![n, 1, 128]⟩) (1 : Fin 3)
    (fun b => shapeCast ⟨3, ![n, 1, 128]⟩ (y b) h1) h2 rfl rfl
    (ix3 (⟨_, hi⟩ : Fin n) (⟨_, hb⟩ : Fin 8) l) ⟨_, hb⟩ rfl
    (ix3 (⟨_, hi⟩ : Fin n) 0 l) ?_).trans ?_
  · intro d hd
    match d with
    | ⟨0, _⟩ => rfl
    | ⟨1, _⟩ => exact absurd rfl hd
    | ⟨2, _⟩ => rfl
  refine (shapeCast_apply _ h1 _ (ix2 (⟨_, hi⟩ : Fin n) l) ?_).trans ?_
  · rw [Shape.rowMajor_val_two, Shape.rowMajor_val_three]
    show q.val / 8 * 128 + l.val = (q.val / 8 * 1 + 0) * 128 + l.val
    rw [Nat.mul_one, Nat.add_zero]
  refine (hy ⟨_, hb⟩ ⟨_, hi⟩ l).trans ?_
  show v l (φ (q.val / 8 * 8 + q.val % 8)) = _
  rw [show q.val / 8 * 8 + q.val % 8 = q.val by omega]

/-- Eight planes interleaved, as they are listed. -/
theorem stack8 (hr : r = n * 8) {y0 y1 y2 y3 y4 y5 y6 y7 : FVec Ideal ⟨2, ![n, 128]⟩ .f32}
    (e0 : Lay y0 (fun q => φ (q * 8 + 0)) v) (e1 : Lay y1 (fun q => φ (q * 8 + 1)) v)
    (e2 : Lay y2 (fun q => φ (q * 8 + 2)) v) (e3 : Lay y3 (fun q => φ (q * 8 + 3)) v)
    (e4 : Lay y4 (fun q => φ (q * 8 + 4)) v) (e5 : Lay y5 (fun q => φ (q * 8 + 5)) v)
    (e6 : Lay y6 (fun q => φ (q * 8 + 6)) v) (e7 : Lay y7 (fun q => φ (q * 8 + 7)) v)
    {h1 : (⟨2, ![n, 128]⟩ : Shape).ShapeCasts ⟨3, ![n, 1, 128]⟩}
    {h2 : Shape.Concatenates [⟨3, ![n, 1, 128]⟩, ⟨3, ![n, 1, 128]⟩, ⟨3, ![n, 1, 128]⟩, ⟨3, ![n, 1, 128]⟩,
      ⟨3, ![n, 1, 128]⟩, ⟨3, ![n, 1, 128]⟩, ⟨3, ![n, 1, 128]⟩, ⟨3, ![n, 1, 128]⟩] ⟨3, ![n, 8, 128]⟩ 1}
    {h3 : (⟨3, ![n, 8, 128]⟩ : Shape).ShapeCasts ⟨2, ![r, 128]⟩} :
    Lay (shapeCast ⟨2, ![r, 128]⟩ (concatenate ⟨3, ![n, 8, 128]⟩ 1
      [⟨⟨3, ![n, 1, 128]⟩, shapeCast ⟨3, ![n, 1, 128]⟩ y0 h1⟩, ⟨⟨3, ![n, 1, 128]⟩, shapeCast ⟨3, ![n, 1, 128]⟩ y1 h1⟩,
        ⟨⟨3, ![n, 1, 128]⟩, shapeCast ⟨3, ![n, 1, 128]⟩ y2 h1⟩, ⟨⟨3, ![n, 1, 128]⟩, shapeCast ⟨3, ![n, 1, 128]⟩ y3 h1⟩,
        ⟨⟨3, ![n, 1, 128]⟩, shapeCast ⟨3, ![n, 1, 128]⟩ y4 h1⟩, ⟨⟨3, ![n, 1, 128]⟩, shapeCast ⟨3, ![n, 1, 128]⟩ y5 h1⟩,
        ⟨⟨3, ![n, 1, 128]⟩, shapeCast ⟨3, ![n, 1, 128]⟩ y6 h1⟩, ⟨⟨3, ![n, 1, 128]⟩, shapeCast ⟨3, ![n, 1, 128]⟩ y7 h1⟩] h2) h3) φ v :=
  stack_planes hr ![y0, y1, y2, y3, y4, y5, y6, y7] (fun b => match b with
    | ⟨0, _⟩ => e0 | ⟨1, _⟩ => e1 | ⟨2, _⟩ => e2 | ⟨3, _⟩ => e3 | ⟨4, _⟩ => e4 | ⟨5, _⟩ => e5 | ⟨6, _⟩ => e6 | ⟨7, _⟩ => e7)
    (h1 := h1) (h2 := h2) (h3 := h3)

/-- The positions of an interleaved plane. -/
theorem pos_plane (B : ℕ → ℕ) (q h : ℕ) (hh : h < 8) : pos B (q * 8 + h) = B h + q := by
  unfold pos
  rw [show (q * 8 + h) % 8 = h by omega, show (q * 8 + h) / 8 = q by omega]

theorem Lay.of_pos {m : ℕ} {x : FVec Ideal ⟨2, ![m, 128]⟩ .f32} {φ ψ : ℕ → ℕ} (h : Lay x φ v) (e : ∀ q < m, φ q = ψ q) : Lay x ψ v :=
  fun q l => by rw [h q l, e q.val q.isLt]

/-- One half of a plane. -/
theorem half {x : FVec Ideal ⟨2, ![512, 128]⟩ .f32} (hx : Lay x φ v) (b : ℕ) (hb : b < 2)
    {h1 : (⟨2, ![512, 128]⟩ : Shape).ShapeCasts ⟨3, ![2, 256, 128]⟩}
    {h2 : (⟨3, ![2, 256, 128]⟩ : Shape).Slices ![b, 0, 0] ⟨3, ![1, 256, 128]⟩}
    {h3 : (⟨3, ![1, 256, 128]⟩ : Shape).ShapeCasts ⟨2, ![256, 128]⟩} :
    Lay (shapeCast ⟨2, ![256, 128]⟩ (extractStridedSlice ⟨3, ![1, 256, 128]⟩ ![b, 0, 0]
      (shapeCast ⟨3, ![2, 256, 128]⟩ x h1) h2) h3) (fun q => φ (b * 256 + q)) v := fun q l => by
  have hq := q.isLt
  refine (shapeCast_apply _ h3 _ (ix3 0 q l) ?_).trans ?_
  · rw [Shape.rowMajor_val_three, Shape.rowMajor_val_two]
    show (0 * 256 + q.val) * 128 + l.val = q.val * 128 + l.val
    omega
  refine (extractStridedSlice_apply _ _ h2 _ (ix3 ⟨b, hb⟩ q l) ?_).trans ?_
  · intro d
    match d with
    | ⟨0, _⟩ => rfl
    | ⟨1, _⟩ => exact (Nat.zero_add _).symm
    | ⟨2, _⟩ => exact (Nat.zero_add _).symm
  refine (shapeCast_apply x h1 _ (ix2 ⟨b * 256 + q.val, by omega⟩ l) ?_).trans (hx _ _)
  rw [Shape.rowMajor_val_two, Shape.rowMajor_val_three]
  rfl

end planes8

/-! ### The exchange of neighbouring rows -/

theorem sub_step {x : FVec Ideal ⟨2, ![4096, 128]⟩ .f32} {w : IVec ⟨2, ![4096, 1]⟩ 32} {φ : ℕ → ℕ} {v : Fin 128 → ℕ → EReal} (s : ℕ)
    (hx : Lay x φ v) (hw : Word w fun q => q) (hφ : ∀ k < 2048, Pair s (φ (2 * k)) (φ (2 * k + 1)))
    {a1 : (⟨2, ![4096, 128]⟩ : Shape).Slices ![4095, 0] ⟨2, ![1, 128]⟩}
    {a2 : (⟨2, ![4096, 128]⟩ : Shape).Slices ![0, 0] ⟨2, ![4095, 128]⟩}
    {a3 : Shape.Concatenates [⟨2, ![1, 128]⟩, ⟨2, ![4095, 128]⟩] ⟨2, ![4096, 128]⟩ 0}
    {a4 : (⟨2, ![4096, 128]⟩ : Shape).Slices ![1, 0] ⟨2, ![4095, 128]⟩}
    {a5 : (⟨2, ![4096, 128]⟩ : Shape).Slices ![0, 0] ⟨2, ![1, 128]⟩}
    {a6 : Shape.Concatenates [⟨2, ![4095, 128]⟩, ⟨2, ![1, 128]⟩] ⟨2, ![4096, 128]⟩ 0}
    {a7 : (⟨2, ![4096, 1]⟩ : Shape).ShapeCasts ⟨2, ![4096, 1]⟩}
    {a8 : (⟨2, ![4096, 1]⟩ : Shape).Broadcasts ⟨2, ![4096, 128]⟩} :
    Lay (select (broadcastTo ⟨2, ![4096, 128]⟩ (shapeCast ⟨2, ![4096, 1]⟩
        (cmpi .eq (andi w (broadcast ⟨2, ![4096, 1]⟩ 1#32)) (broadcast ⟨2, ![4096, 1]⟩ 0#32)) a7) a8)
      (maximumf x (concatenate ⟨2, ![4096, 128]⟩ 0 [⟨⟨2, ![4095, 128]⟩, extractStridedSlice ⟨2, ![4095, 128]⟩ ![1, 0] x a4⟩,
        ⟨⟨2, ![1, 128]⟩, extractStridedSlice ⟨2, ![1, 128]⟩ ![0, 0] x a5⟩] a6))
      (minimumf x (concatenate ⟨2, ![4096, 128]⟩ 0 [⟨⟨2, ![1, 128]⟩, extractStridedSlice ⟨2, ![1, 128]⟩ ![4095, 0] x a1⟩,
        ⟨⟨2, ![4095, 128]⟩, extractStridedSlice ⟨2, ![4095, 128]⟩ ![0, 0] x a2⟩] a3))) φ fun l => st s (v l) := fun q l => by
  have hq := q.isLt
  have hm : broadcastTo ⟨2, ![4096, 128]⟩ (shapeCast ⟨2, ![4096, 1]⟩
        (cmpi .eq (andi w (broadcast ⟨2, ![4096, 1]⟩ 1#32)) (broadcast ⟨2, ![4096, 1]⟩ 0#32)) a7) a8 (ix2 q l) =
      if q.val / 2 ^ 0 % 2 = 0 then 1#1 else 0#1 := by
    rw [broadcastTo_apply _ a8 (ix2 q l) (ix2 q 0) (fun d => match d with | ⟨0, _⟩ => rfl | ⟨1, _⟩ => rfl), shapeCast_self]
    show IntOp.cmpi .eq (w (ix2 q 0) &&& 1#32) 0#32 = _
    rw [hw q, ← bit_mask (j := q.val) (l := 0) (by omega) (by decide)]
    rfl
  refine (show _ = Scalar.select _ (Max.max (x (ix2 q l)) _) (Min.min (x (ix2 q l)) _) from rfl).trans ?_
  rw [hm]
  unfold Scalar.select
  by_cases h : q.val % 2 = 0
  · have e := hφ (q.val / 2) (by omega)
    rw [show 2 * (q.val / 2) = q.val by omega] at e
    rw [if_pos (show q.val / 2 ^ 0 % 2 = 0 by omega), if_pos (by decide)]
    refine (congrArg (Max.max (x (ix2 q l))) ((concatenate_pair_apply_left (t := ⟨2, ![4096, 128]⟩) (s₁ := ⟨2, ![4095, 128]⟩)
      (s₂ := ⟨2, ![1, 128]⟩) (0 : Fin 2) _ _ a6 (ix2 q l) rfl
      (ix2 (⟨q.val, by omega⟩ : Fin 4095) l) (fun d => match d with | ⟨0, _⟩ => rfl | ⟨1, _⟩ => rfl)).trans
      (extractStridedSlice_apply _ x a4 _ (ix2 (⟨q.val + 1, by omega⟩ : Fin 4096) l)
        (fun d => match d with | ⟨0, _⟩ => Nat.add_comm _ _ | ⟨1, _⟩ => (Nat.zero_add _).symm)))).trans ?_
    rw [hx q l, hx _ l]
    show Max.max (v l (φ q.val)) (v l (φ (q.val + 1))) = _
    rw [e.2]
    exact (st_low _ e.1).symm
  · have e := hφ (q.val / 2) (by omega)
    rw [if_neg (show ¬q.val / 2 ^ 0 % 2 = 0 by omega), if_neg (by decide)]
    refine (congrArg (Min.min (x (ix2 q l))) ((concatenate_pair_apply_right (t := ⟨2, ![4096, 128]⟩) (s₁ := ⟨2, ![1, 128]⟩)
      (s₂ := ⟨2, ![4095, 128]⟩) (0 : Fin 2) _ _ a3 (ix2 q l) rfl rfl
      (ix2 (⟨q.val - 1, by omega⟩ : Fin 4095) l) (fun d hd => match d with | ⟨0, _⟩ => absurd rfl hd | ⟨1, _⟩ => rfl)
      (by show q.val - 1 + 1 = q.val; omega)).trans
      (extractStridedSlice_apply _ x a2 _ (ix2 (⟨q.val - 1, by omega⟩ : Fin 4096) l)
        (fun d => match d with | ⟨0, _⟩ => (Nat.zero_add _).symm | ⟨1, _⟩ => (Nat.zero_add _).symm)))).trans ?_
    rw [hx q l, hx _ l]
    show Min.min (v l (φ q.val)) (v l (φ (q.val - 1))) = _
    rw [show q.val - 1 = 2 * (q.val / 2) by omega]
    have e1 : φ q.val = φ (2 * (q.val / 2)) + 2 ^ s := by rw [← e.2, show 2 * (q.val / 2) + 1 = q.val by omega]
    rw [e1, min_comm]
    exact (st_high _ e.1).symm

/-! ### In and out -/

/-- A lane's row of the block. -/
noncomputable def rowOf (x : FVec Ideal ⟨2, ![128, 4096]⟩ .f32) (l : Fin 128) (j : ℕ) : EReal := if h : j < 4096 then x (ix2 l ⟨j, h⟩) else 0

theorem load_plane (x : FVec Ideal ⟨2, ![128, 4096]⟩ .f32) (o : ℕ) (ho : o + 512 ≤ 4096)
    {h1 : (⟨2, ![128, 4096]⟩ : Shape).Slices ![0, o] ⟨2, ![128, 512]⟩}
    {h2 : (⟨2, ![128, 512]⟩ : Shape).Transposes [1, 0] ⟨2, ![512, 128]⟩} :
    Lay (transpose ⟨2, ![512, 128]⟩ [1, 0] (extractStridedSlice ⟨2, ![128, 512]⟩ ![0, o] x h1) h2) (fun q => o + q) (rowOf x) :=
  fun q l => by
  have hq := q.isLt
  refine (transpose_apply _ _ h2 _ (ix2 l q) (fun d => match d with | ⟨0, _⟩ => rfl | ⟨1, _⟩ => rfl)).trans ?_
  refine (extractStridedSlice_apply _ x h1 _ (ix2 l (⟨o + q.val, by omega⟩ : Fin 4096))
    (fun d => match d with | ⟨0, _⟩ => (Nat.zero_add _).symm | ⟨1, _⟩ => rfl)).trans ?_
  unfold rowOf
  rw [dif_pos (show o + q.val < 4096 by omega)]

theorem store_plane {x : FVec Ideal ⟨2, ![256, 128]⟩ .f32} {φ : ℕ → ℕ} {v : Fin 128 → ℕ → EReal} (hx : Lay x φ v)
    {h2 : (⟨2, ![256, 128]⟩ : Shape).Transposes [1, 0] ⟨2, ![128, 256]⟩} (l : Fin 128) (r : Fin 256) :
    transpose ⟨2, ![128, 256]⟩ [1, 0] x h2 (ix2 l r) = v l (φ r.val) :=
  (transpose_apply _ x h2 _ (ix2 r l) (fun d => match d with | ⟨0, _⟩ => rfl | ⟨1, _⟩ => rfl)).trans (hx r l)

end Cert.RowSort
-- ==== Proof.Chain.lean ====
/- The kernel's payloads in turn: every array of 4096 rows they hand on is a sort's state on every lane, up to the
   blocks of 1024 that the last merge starts from. -/
module

public import proofs.«01_k».proof.Proof.Planes
public import proofs.«01_k».proof.Proof.Gen.KernelIdeal.Skeleton

@[expose] public section

namespace Cert.RowSort

open Idealize.ShloMosaic Idealize.ShloMosaic.ValueIdx Cert.KernelIdeal Cert.KernelIdeal.Gen

/-- Where the eight interleaved runs of the whole array begin. -/
def whole (h : ℕ) : ℕ := 512 * h

theorem whole_dvd {s : ℕ} (hs : s ≤ 9) (h : ℕ) : 2 ^ s ∣ whole h :=
  (pow_dvd_pow 2 hs).trans ⟨h, rfl⟩

theorem pos_whole_lt (q : ℕ) (hq : q < 4096) : pos whole q < 2 ^ 32 := by
  unfold pos whole
  omega

/-! ### The words that name the positions -/

theorem rows_word : Word (iota .tc S4096x1 32 [0] Gen.iota_S4096x1_d0_w32) fun q => q := fun q =>
  iota_single_apply _ _ _ _ _ _

/-- The remainder by eight as it is printed: a sign correction that never applies. -/
theorem rem_word : ∀ t : Fin 8, Scalar.select
      ((IntOp.cmpi .slt (BitVec.ofNat 32 t.val) 0#32 ^^^ IntOp.cmpi .slt 8#32 0#32) &&& IntOp.cmpi .ne (BitVec.ofNat 32 t.val) 0#32)
      (BitVec.ofNat 32 t.val + 8#32) (BitVec.ofNat 32 t.val) = BitVec.ofNat 32 t.val := by decide

/-- The quotient by eight as it is printed: a correction that never applies. -/
theorem quot_word (q : ℕ) (hq : q < 4096) (d : BitVec 32) : Scalar.select
      (IntOp.cmpi .ne ((IntOp.cmpi .sgt (BitVec.ofNat 32 q) 0#32).setWidth 32 - (IntOp.cmpi .slt (BitVec.ofNat 32 q) 0#32).setWidth 32)
          ((IntOp.cmpi .sgt 8#32 0#32).setWidth 32 - (IntOp.cmpi .slt 8#32 0#32).setWidth 32) &&&
        IntOp.cmpi .ne (BitVec.ofNat 32 (q % 8)) 0#32) (d - 1#32) d = d := by
  have e1 : IntOp.cmpi .slt (BitVec.ofNat 32 q) 0#32 = 0#1 := by
    show BitVec.ofBool ((BitVec.ofNat 32 q).slt (BitVec.ofNat 32 0)) = _
    rw [Routing.slt_ofNat32 (by omega) (by omega)]
    rfl
  by_cases h : q % 8 = 0
  · rw [h]
    generalize IntOp.cmpi .ne (_ : BitVec 32) ((IntOp.cmpi .sgt 8#32 0#32).setWidth 32 - (IntOp.cmpi .slt 8#32 0#32).setWidth 32) = c
    have : c &&& IntOp.cmpi .ne (BitVec.ofNat 32 0) 0#32 = 0#1 := by
      rw [show IntOp.cmpi .ne (BitVec.ofNat 32 0) 0#32 = 0#1 by decide]
      exact BitVec.and_zero
    rw [this]
    rfl
  · have e2 : IntOp.cmpi .sgt (BitVec.ofNat 32 q) 0#32 = 1#1 := by
      show BitVec.ofBool ((BitVec.ofNat 32 0).slt (BitVec.ofNat 32 q)) = _
      rw [Routing.slt_ofNat32 (by omega) (by omega), decide_eq_true (by omega)]
      rfl
    rw [e1, e2]
    generalize IntOp.cmpi .ne (BitVec.ofNat 32 (q % 8)) 0#32 = c
    revert c
    intro c
    have : IntOp.cmpi .ne ((1#1).setWidth 32 - (0#1).setWidth 32)
          ((IntOp.cmpi .sgt 8#32 0#32).setWidth 32 - (IntOp.cmpi .slt 8#32 0#32).setWidth 32) &&& c = 0#1 := by
      rw [show IntOp.cmpi .ne ((1#1).setWidth 32 - (0#1).setWidth 32)
          ((IntOp.cmpi .sgt 8#32 0#32).setWidth 32 - (IntOp.cmpi .slt 8#32 0#32).setWidth 32) = 0#1 by decide]
      exact BitVec.zero_and
    rw [this]
    rfl

/-- The position words of the whole array. -/
noncomputable abbrev posWords : IVec S4096x1 32 :=
  k0_pay7 (iota .tc S4096x1 32 [0] Gen.iota_S4096x1_d0_w32) k0_pay5 8#32 k0_pay6

theorem pos_words : Word posWords (pos whole) := fun q => by
  have hq := q.isLt
  have hi := rows_word q
  have hr : IntOp.remsi .vector (BitVec.ofNat 32 q.val) 8#32 = BitVec.ofNat 32 (q.val % 8) :=
    Routing.remsi_word .vector (b := 8) (by omega) (by decide) (by decide)
  have hd : IntOp.divsi .vector (BitVec.ofNat 32 q.val) 8#32 = BitVec.ofNat 32 (q.val / 8) :=
    Routing.divsi_word .vector (b := 8) (by omega) (by decide) (by decide)
  have e5 : k0_pay5 (ix2 q 0) = BitVec.ofNat 32 (q.val % 8) * 512#32 := by
    show Scalar.select
      ((IntOp.cmpi .slt (IntOp.remsi .vector (iota .tc S4096x1 32 [0] Gen.iota_S4096x1_d0_w32 (ix2 q 0)) 8#32) 0#32 ^^^ IntOp.cmpi .slt 8#32 0#32) &&&
        IntOp.cmpi .ne (IntOp.remsi .vector (iota .tc S4096x1 32 [0] Gen.iota_S4096x1_d0_w32 (ix2 q 0)) 8#32) 0#32)
      (IntOp.remsi .vector (iota .tc S4096x1 32 [0] Gen.iota_S4096x1_d0_w32 (ix2 q 0)) 8#32 + 8#32)
      (IntOp.remsi .vector (iota .tc S4096x1 32 [0] Gen.iota_S4096x1_d0_w32 (ix2 q 0)) 8#32) * 512#32 = _
    rw [hi, hr, rem_word ⟨q.val % 8, Nat.mod_lt _ (by decide)⟩]
  show k0_pay5 (ix2 q 0) + Scalar.select
      (IntOp.cmpi .ne ((IntOp.cmpi .sgt (iota .tc S4096x1 32 [0] Gen.iota_S4096x1_d0_w32 (ix2 q 0)) 0#32).setWidth 32 -
            (IntOp.cmpi .slt (iota .tc S4096x1 32 [0] Gen.iota_S4096x1_d0_w32 (ix2 q 0)) 0#32).setWidth 32)
          ((IntOp.cmpi .sgt 8#32 0#32).setWidth 32 - (IntOp.cmpi .slt 8#32 0#32).setWidth 32) &&&
        IntOp.cmpi .ne (IntOp.remsi .vector (iota .tc S4096x1 32 [0] Gen.iota_S4096x1_d0_w32 (ix2 q 0)) 8#32) 0#32)
      (IntOp.divsi .vector (iota .tc S4096x1 32 [0] Gen.iota_S4096x1_d0_w32 (ix2 q 0)) 8#32 - 1#32)
      (IntOp.divsi .vector (iota .tc S4096x1 32 [0] Gen.iota_S4096x1_d0_w32 (ix2 q 0)) 8#32) = _
  rw [hi, hr, hd, e5, quot_word q.val hq, show (512#32 : BitVec 32) = BitVec.ofNat 32 512 from rfl, ← BitVec.ofNat_mul,
    ← BitVec.ofNat_add]
  unfold pos whole
  rw [Nat.mul_comm]

/-! ### The states -/

section states

variable {v : Fin 128 → ℕ → EReal}

/-- The sign of one bit of the position. -/
theorem sgn (l : ℕ) (hl : l < 32) {w k : IVec S4096x1 32} (hw : Word w (pos whole)) (hk : ∀ i, k i = BitVec.ofNat 32 (2 ^ l)) :
    Sg (select (cmpi .eq (andi w k) (broadcast S4096x1 0#32)) (broadcast S4096x1 (FloatOps.ofBits .f32 0x3F800000#32 : Ideal .f32))
      (broadcast S4096x1 (FloatOps.ofBits .f32 0xBF800000#32 : Ideal .f32))) (pos whole) (sg l) :=
  sgn_is l hl hw pos_whole_lt hk

theorem state1 {x : FVec Ideal S4096x128 .f32} (hx : Lay x (pos whole) v) :
    Lay (k0_pay8 x (iota .tc S4096x1 32 [0] Gen.iota_S4096x1_d0_w32) k0_pay5 8#32 k0_pay6) (pos whole) fun l => run 1 (lev 0 (v l)) := by
  refine step1_of (n := 4096) (a := 256) (m := 8) 0 rfl ?_ (pair1 (whole_dvd (by decide)) rfl)
  exact hx.mulSg (sgn 1 (by decide) pos_words fun _ => rfl)

theorem state2 {x : FVec Ideal S4096x128 .f32} {w : IVec S4096x1 32} (hw : Word w (pos whole))
    (hx : Lay x (pos whole) fun l => run 1 (lev 0 (v l))) :
    Lay (k0_pay10 w x k0_pay9) (pos whole) fun l => run 2 (lev 1 (v l)) := by
  refine step2_of (n := 4096) (a := 128) (m := 8) 0 rfl ?_ (pair2 (whole_dvd (by decide)) rfl) (pair2' (whole_dvd (by decide)) rfl)
  exact hx.mulSg ((sgn 1 (by decide) hw fun _ => rfl).mul (sgn 2 (by decide) hw fun _ => rfl))

theorem state3 {x : FVec Ideal S4096x128 .f32} {w : IVec S4096x1 32} (hw : Word w (pos whole))
    (hx : Lay x (pos whole) fun l => run 2 (lev 1 (v l))) :
    Lay (k0_pay13 x (k0_pay11 w) (k0_pay12 w)) (pos whole) fun l => run 3 (lev 2 (v l)) := by
  refine step1_of (n := 4096) (a := 256) (m := 8) 0 rfl (step2_of (n := 4096) (a := 64) (m := 16) 1 rfl ?_ (pair2 (whole_dvd (by decide)) rfl) (pair2' (whole_dvd (by decide)) rfl))
    (pair1 (whole_dvd (by decide)) rfl)
  exact hx.mulSg ((sgn 2 (by decide) hw fun _ => rfl).mul (sgn 3 (by decide) hw fun _ => rfl))

/-- Neighbouring rows hold positions 512 apart. -/
theorem sub_pairs : ∀ k < 2048, Pair 9 (pos whole (2 * k)) (pos whole (2 * k + 1)) := fun k _ => by
  have e0 : (2 * k) % 8 = 2 * (k % 4) := by omega
  have e1 : (2 * k + 1) % 8 = 2 * (k % 4) + 1 := by omega
  have d0 : (2 * k) / 8 = k / 4 := by omega
  have d1 : (2 * k + 1) / 8 = k / 4 := by omega
  have d2 : (512 * (2 * (k % 4)) + k / 4) / 2 ^ 9 = 2 * (k % 4) := by
    rw [show (2 : ℕ) ^ 9 = 512 from rfl, Nat.mul_add_div (by decide), Nat.div_eq_of_lt (by omega), Nat.add_zero]
  unfold Pair pos whole
  rw [e0, e1, d0, d1, d2]
  omega

theorem state4 {x : FVec Ideal S4096x128 .f32} {w : IVec S4096x1 32} (hw : Word w (pos whole))
    (hx : Lay x (pos whole) fun l => run 3 (lev 2 (v l))) :
    Lay (k0_pay15 w x (k0_pay14 w)) (pos whole) fun l => run 4 (lev 3 (v l)) := by
  refine step2_of (n := 4096) (a := 128) (m := 8) 0 rfl ?_ (pair2 (whole_dvd (by decide)) rfl)
    (pair2' (whole_dvd (by decide)) rfl)
  refine step2_of (n := 4096) (a := 32) (m := 32) 2 rfl ?_ (pair2 (whole_dvd (by decide)) rfl)
    (pair2' (whole_dvd (by decide)) rfl)
  refine Lay.mulSg ?_ ((sgn 3 (by decide) hw fun _ => rfl).mul (sgn 4 (by decide) hw fun _ => rfl))
  exact hx

theorem state6 {x : FVec Ideal S4096x128 .f32} {w : IVec S4096x1 32} (hw : Word w (pos whole))
    (hx : Lay x (pos whole) fun l => run 4 (lev 3 (v l))) :
    Lay (k0_pay29 (k0_pay25 w (k0_pay18 w x) (k0_pay20 w x) (k0_pay21 w x) (k0_pay22 w x) (k0_pay23 w x))
      (k0_pay26 w (k0_pay18 w x) (k0_pay20 w x) (k0_pay21 w x) (k0_pay22 w x) (k0_pay23 w x))
      (k0_pay27 w (k0_pay18 w x) (k0_pay20 w x) (k0_pay21 w x) (k0_pay22 w x) (k0_pay23 w x))
      (k0_pay28 w (k0_pay18 w x) (k0_pay20 w x) (k0_pay21 w x) (k0_pay22 w x) (k0_pay23 w x))) (pos whole) fun l => run 6 (lev 5 (v l)) := by
  dsimp only [k0_pay16, k0_pay17, k0_pay18, k0_pay19, k0_pay20, k0_pay21, k0_pay22, k0_pay23, k0_pay24, k0_pay25,
    k0_pay26, k0_pay27, k0_pay28, k0_pay29]
  refine step2_of (n := 4096) (a := 128) (m := 8) 0 rfl ?_ (pair2 (whole_dvd (by decide)) rfl)
    (pair2' (whole_dvd (by decide)) rfl)
  refine step2_of (n := 4096) (a := 32) (m := 32) 2 rfl ?_ (pair2 (whole_dvd (by decide)) rfl)
    (pair2' (whole_dvd (by decide)) rfl)
  refine step2_of (n := 4096) (a := 8) (m := 128) 4 rfl ?_ (pair2 (whole_dvd (by decide)) rfl)
    (pair2' (whole_dvd (by decide)) rfl)
  refine Lay.mulSg ?_ ((sgn 5 (by decide) hw fun _ => rfl).mul (sgn 6 (by decide) hw fun _ => rfl))
  refine step1_of (n := 4096) (a := 256) (m := 8) 0 rfl ?_ (pair1 (whole_dvd (by decide)) rfl)
  refine step2_of (n := 4096) (a := 64) (m := 16) 1 rfl ?_ (pair2 (whole_dvd (by decide)) rfl)
    (pair2' (whole_dvd (by decide)) rfl)
  refine step2_of (n := 4096) (a := 16) (m := 64) 3 rfl ?_ (pair2 (whole_dvd (by decide)) rfl)
    (pair2' (whole_dvd (by decide)) rfl)
  refine Lay.mulSg ?_ ((sgn 4 (by decide) hw fun _ => rfl).mul (sgn 5 (by decide) hw fun _ => rfl))
  exact hx

theorem state7 {x : FVec Ideal S4096x128 .f32} {w : IVec S4096x1 32} (hw : Word w (pos whole))
    (hx : Lay x (pos whole) fun l => run 6 (lev 5 (v l))) :
    Lay (k0_pay38 (k0_pay32 w x) (k0_pay34 w x) (k0_pay35 w x) (k0_pay36 w x) (k0_pay37 w x)) (pos whole) fun l => run 7 (lev 6 (v l)) := by
  dsimp only [k0_pay30, k0_pay31, k0_pay32, k0_pay33, k0_pay34, k0_pay35, k0_pay36, k0_pay37, k0_pay38]
  refine step1_of (n := 4096) (a := 256) (m := 8) 0 rfl ?_ (pair1 (whole_dvd (by decide)) rfl)
  refine step2_of (n := 4096) (a := 64) (m := 16) 1 rfl ?_ (pair2 (whole_dvd (by decide)) rfl)
    (pair2' (whole_dvd (by decide)) rfl)
  refine step2_of (n := 4096) (a := 16) (m := 64) 3 rfl ?_ (pair2 (whole_dvd (by decide)) rfl)
    (pair2' (whole_dvd (by decide)) rfl)
  refine step2_of (n := 4096) (a := 4) (m := 256) 5 rfl ?_ (pair2 (whole_dvd (by decide)) rfl)
    (pair2' (whole_dvd (by decide)) rfl)
  refine Lay.mulSg ?_ ((sgn 6 (by decide) hw fun _ => rfl).mul (sgn 7 (by decide) hw fun _ => rfl))
  exact hx

theorem state8 {x : FVec Ideal S4096x128 .f32} {w : IVec S4096x1 32} (hw : Word w (pos whole))
    (hx : Lay x (pos whole) fun l => run 7 (lev 6 (v l))) :
    Lay (k0_pay41 (k0_pay40 w x (k0_pay39 w))) (pos whole) fun l => run 8 (lev 7 (v l)) := by
  refine step2_of (n := 4096) (a := 128) (m := 8) 0 rfl ?_ (pair2 (whole_dvd (by decide)) rfl)
    (pair2' (whole_dvd (by decide)) rfl)
  refine step2_of (n := 4096) (a := 32) (m := 32) 2 rfl ?_ (pair2 (whole_dvd (by decide)) rfl)
    (pair2' (whole_dvd (by decide)) rfl)
  refine step2_of (n := 4096) (a := 8) (m := 128) 4 rfl ?_ (pair2 (whole_dvd (by decide)) rfl)
    (pair2' (whole_dvd (by decide)) rfl)
  refine step2_of (n := 4096) (a := 2) (m := 512) 6 rfl ?_ (pair2 (whole_dvd (by decide)) rfl)
    (pair2' (whole_dvd (by decide)) rfl)
  refine Lay.mulSg ?_ ((sgn 7 (by decide) hw fun _ => rfl).mul (sgn 8 (by decide) hw fun _ => rfl))
  exact hx

theorem state9 {x : FVec Ideal S4096x128 .f32} {w : IVec S4096x1 32} (hw : Word w (pos whole))
    (hx : Lay x (pos whole) fun l => run 8 (lev 7 (v l))) :
    Lay (k0_pay46 (k0_pay44 x (k0_pay42 w) (k0_pay43 w)) (k0_pay45 x (k0_pay42 w) (k0_pay43 w))) (pos whole) fun l => run 9 (lev 8 (v l)) := by
  dsimp only [k0_pay44, k0_pay45, k0_pay46]
  refine step1_of (n := 4096) (a := 256) (m := 8) 0 rfl ?_ (pair1 (whole_dvd (by decide)) rfl)
  refine step2_of (n := 4096) (a := 64) (m := 16) 1 rfl ?_ (pair2 (whole_dvd (by decide)) rfl)
    (pair2' (whole_dvd (by decide)) rfl)
  refine step2_of (n := 4096) (a := 16) (m := 64) 3 rfl ?_ (pair2 (whole_dvd (by decide)) rfl)
    (pair2' (whole_dvd (by decide)) rfl)
  refine step2_of (n := 4096) (a := 4) (m := 256) 5 rfl ?_ (pair2 (whole_dvd (by decide)) rfl)
    (pair2' (whole_dvd (by decide)) rfl)
  refine step2_of (n := 4096) (a := 1) (m := 1024) 7 rfl ?_ (pair2 (whole_dvd (by decide)) rfl)
    (pair2' (whole_dvd (by decide)) rfl)
  refine Lay.mulSg ?_ ((sgn 8 (by decide) hw fun _ => rfl).mul (sgn 9 (by decide) hw fun _ => rfl))
  exact hx

theorem state10 {x : FVec Ideal S4096x128 .f32} {w : IVec S4096x1 32} (hw : Word w (pos whole))
    (hx : Lay x (pos whole) fun l => run 9 (lev 8 (v l))) :
    Lay (k0_pay68 w (k0_pay63 (k0_pay57 (iota .tc S4096x1 32 [0] Gen.iota_S4096x1_d0_w32) w x k0_pay47)
      (k0_pay58 (iota .tc S4096x1 32 [0] Gen.iota_S4096x1_d0_w32) w x k0_pay47)
      (k0_pay59 (iota .tc S4096x1 32 [0] Gen.iota_S4096x1_d0_w32) w x k0_pay47)
      (k0_pay60 (iota .tc S4096x1 32 [0] Gen.iota_S4096x1_d0_w32) w x k0_pay47))
      (k0_pay65 (k0_pay57 (iota .tc S4096x1 32 [0] Gen.iota_S4096x1_d0_w32) w x k0_pay47)
      (k0_pay58 (iota .tc S4096x1 32 [0] Gen.iota_S4096x1_d0_w32) w x k0_pay47)
      (k0_pay59 (iota .tc S4096x1 32 [0] Gen.iota_S4096x1_d0_w32) w x k0_pay47)
      (k0_pay60 (iota .tc S4096x1 32 [0] Gen.iota_S4096x1_d0_w32) w x k0_pay47))
      (k0_pay66 (k0_pay57 (iota .tc S4096x1 32 [0] Gen.iota_S4096x1_d0_w32) w x k0_pay47)
      (k0_pay58 (iota .tc S4096x1 32 [0] Gen.iota_S4096x1_d0_w32) w x k0_pay47)
      (k0_pay59 (iota .tc S4096x1 32 [0] Gen.iota_S4096x1_d0_w32) w x k0_pay47)
      (k0_pay60 (iota .tc S4096x1 32 [0] Gen.iota_S4096x1_d0_w32) w x k0_pay47))
      (k0_pay67 (k0_pay57 (iota .tc S4096x1 32 [0] Gen.iota_S4096x1_d0_w32) w x k0_pay47)
      (k0_pay58 (iota .tc S4096x1 32 [0] Gen.iota_S4096x1_d0_w32) w x k0_pay47)
      (k0_pay59 (iota .tc S4096x1 32 [0] Gen.iota_S4096x1_d0_w32) w x k0_pay47)
      (k0_pay60 (iota .tc S4096x1 32 [0] Gen.iota_S4096x1_d0_w32) w x k0_pay47))) (pos whole) fun l => lev 10 (v l) := by
  dsimp only [k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68]
  refine Lay.mulSg ?_ ((sgn 10 (by decide) hw fun _ => rfl).mul (sgn 11 (by decide) hw fun _ => rfl))
  refine step1_of (n := 4096) (a := 256) (m := 8) 0 rfl ?_ (pair1 (whole_dvd (by decide)) rfl)
  refine step2_of (n := 4096) (a := 64) (m := 16) 1 rfl ?_ (pair2 (whole_dvd (by decide)) rfl)
    (pair2' (whole_dvd (by decide)) rfl)
  refine step2_of (n := 4096) (a := 16) (m := 64) 3 rfl ?_ (pair2 (whole_dvd (by decide)) rfl)
    (pair2' (whole_dvd (by decide)) rfl)
  refine step2_of (n := 4096) (a := 4) (m := 256) 5 rfl ?_ (pair2 (whole_dvd (by decide)) rfl)
    (pair2' (whole_dvd (by decide)) rfl)
  refine step2_of (n := 4096) (a := 1) (m := 1024) 7 rfl ?_ (pair2 (whole_dvd (by decide)) rfl)
    (pair2' (whole_dvd (by decide)) rfl)
  refine sub_step 9 ?_ rows_word sub_pairs
  refine Lay.mulSg ?_ ((sgn 9 (by decide) hw fun _ => rfl).mul (sgn 10 (by decide) hw fun _ => rfl))
  exact hx

end states

end Cert.RowSort
-- ==== Proof.Tail.lean ====
/- The last merges: from the array sorted in blocks of 1024 positions to the 2048 greatest of every row. -/
module

public import proofs.«01_k».proof.Proof.Chain

@[expose] public section

namespace Cert.RowSort

open Idealize.ShloMosaic Idealize.ShloMosaic.ValueIdx Cert.KernelIdeal Cert.KernelIdeal.Gen

/-- Where the eight interleaved runs of the kept half begin. -/
def kept (h : ℕ) : ℕ := h % 4 * 512 + h / 4 * 256

theorem kept_dvd {s : ℕ} (hs : s ≤ 8) (h : ℕ) : 2 ^ s ∣ kept h :=
  (pow_dvd_pow 2 hs).trans ⟨h % 4 * 2 + h / 4, by unfold kept; omega⟩

section tail

variable {v : Fin 128 → ℕ → EReal}

/-- Planes `2 ^ d` apart hold positions `512 * 2 ^ d` apart. -/
theorem plane_pair (d h h' : ℕ) (hh : h / 2 ^ d % 2 = 0) (e : h' = h + 2 ^ d) (hl : h' < 8) :
    ∀ q < 512, Pair (9 + d) (pos whole (q * 8 + h)) (pos whole (q * 8 + h')) := fun q hq => by
  rw [pos_plane whole q h ((e ▸ Nat.le_add_right h (2 ^ d)).trans_lt hl), pos_plane whole q h' hl]
  unfold Pair whole
  constructor
  · rw [pow_add, ← Nat.div_div_eq_div_mul, show (2 : ℕ) ^ 9 = 512 from rfl, Nat.mul_add_div (by decide), Nat.div_eq_of_lt hq, Nat.add_zero]
    exact hh
  · rw [e, pow_add]
    ring

/-- Two stages on four neighbouring planes. -/
theorem quad {p0 p1 p2 p3 : FVec Ideal S512x128 .f32} (b : ℕ) (hb : b = 0 ∨ b = 4)
    (e0 : Lay p0 (fun q => pos whole (q * 8 + b)) v) (e1 : Lay p1 (fun q => pos whole (q * 8 + (b + 1))) v)
    (e2 : Lay p2 (fun q => pos whole (q * 8 + (b + 2))) v) (e3 : Lay p3 (fun q => pos whole (q * 8 + (b + 3))) v) :
    Lay (maximumf (maximumf p0 p2) (maximumf p1 p3)) (fun q => pos whole (q * 8 + b)) (fun l => st 9 (st 10 (v l))) ∧
    Lay (minimumf (maximumf p0 p2) (maximumf p1 p3)) (fun q => pos whole (q * 8 + (b + 1))) (fun l => st 9 (st 10 (v l))) ∧
    Lay (maximumf (minimumf p0 p2) (minimumf p1 p3)) (fun q => pos whole (q * 8 + (b + 2))) (fun l => st 9 (st 10 (v l))) ∧
    Lay (minimumf (minimumf p0 p2) (minimumf p1 p3)) (fun q => pos whole (q * 8 + (b + 3))) (fun l => st 9 (st 10 (v l))) := by
  have q02 := plane_pair 1 b (b + 2) (by omega) rfl (by omega)
  have q13 := plane_pair 1 (b + 1) (b + 3) (by omega) rfl (by omega)
  have q01 := plane_pair 0 b (b + 1) (by omega) rfl (by omega)
  have q23 := plane_pair 0 (b + 2) (b + 3) (by omega) rfl (by omega)
  exact ⟨Lay.max 9 (Lay.max 10 e0 e2 q02) (Lay.max 10 e1 e3 q13) q01, Lay.min 9 (Lay.max 10 e0 e2 q02) (Lay.max 10 e1 e3 q13) q01,
    Lay.max 9 (Lay.min 10 e0 e2 q02) (Lay.min 10 e1 e3 q13) q23, Lay.min 9 (Lay.min 10 e0 e2 q02) (Lay.min 10 e1 e3 q13) q23⟩

/-- The stages at 1024 and 512 on the whole array, plane by plane. -/
theorem octet {x : FVec Ideal S4096x128 .f32} (hx : Lay x (pos whole) v) :
    Lay (shapeCast S4096x128 (concatenate S512x8x128 1
      (let p0 := shapeCast S512x128 (extractStridedSlice S512x1x128 ![0, 0, 0] (shapeCast S512x8x128 x shapeCasts_S4096x128_S512x8x128) slices_S512x8x128_o0_0_0_S512x1x128) shapeCasts_S512x1x128_S512x128
       let p1 := shapeCast S512x128 (extractStridedSlice S512x1x128 ![0, 1, 0] (shapeCast S512x8x128 x shapeCasts_S4096x128_S512x8x128) slices_S512x8x128_o0_1_0_S512x1x128) shapeCasts_S512x1x128_S512x128
       let p2 := shapeCast S512x128 (extractStridedSlice S512x1x128 ![0, 2, 0] (shapeCast S512x8x128 x shapeCasts_S4096x128_S512x8x128) slices_S512x8x128_o0_2_0_S512x1x128) shapeCasts_S512x1x128_S512x128
       let p3 := shapeCast S512x128 (extractStridedSlice S512x1x128 ![0, 3, 0] (shapeCast S512x8x128 x shapeCasts_S4096x128_S512x8x128) slices_S512x8x128_o0_3_0_S512x1x128) shapeCasts_S512x1x128_S512x128
       let p4 := shapeCast S512x128 (extractStridedSlice S512x1x128 ![0, 4, 0] (shapeCast S512x8x128 x shapeCasts_S4096x128_S512x8x128) slices_S512x8x128_o0_4_0_S512x1x128) shapeCasts_S512x1x128_S512x128
       let p5 := shapeCast S512x128 (extractStridedSlice S512x1x128 ![0, 5, 0] (shapeCast S512x8x128 x shapeCasts_S4096x128_S512x8x128) slices_S512x8x128_o0_5_0_S512x1x128) shapeCasts_S512x1x128_S512x128
       let p6 := shapeCast S512x128 (extractStridedSlice S512x1x128 ![0, 6, 0] (shapeCast S512x8x128 x shapeCasts_S4096x128_S512x8x128) slices_S512x8x128_o0_6_0_S512x1x128) shapeCasts_S512x1x128_S512x128
       let p7 := shapeCast S512x128 (extractStridedSlice S512x1x128 ![0, 7, 0] (shapeCast S512x8x128 x shapeCasts_S4096x128_S512x8x128) slices_S512x8x128_o0_7_0_S512x1x128) shapeCasts_S512x1x128_S512x128
       [⟨S512x1x128, shapeCast S512x1x128 (maximumf (maximumf p0 p2) (maximumf p1 p3)) shapeCasts_S512x128_S512x1x128⟩,
        ⟨S512x1x128, shapeCast S512x1x128 (minimumf (maximumf p0 p2) (maximumf p1 p3)) shapeCasts_S512x128_S512x1x128⟩,
        ⟨S512x1x128, shapeCast S512x1x128 (maximumf (minimumf p0 p2) (minimumf p1 p3)) shapeCasts_S512x128_S512x1x128⟩,
        ⟨S512x1x128, shapeCast S512x1x128 (minimumf (minimumf p0 p2) (minimumf p1 p3)) shapeCasts_S512x128_S512x1x128⟩,
        ⟨S512x1x128, shapeCast S512x1x128 (maximumf (maximumf p4 p6) (maximumf p5 p7)) shapeCasts_S512x128_S512x1x128⟩,
        ⟨S512x1x128, shapeCast S512x1x128 (minimumf (maximumf p4 p6) (maximumf p5 p7)) shapeCasts_S512x128_S512x1x128⟩,
        ⟨S512x1x128, shapeCast S512x1x128 (maximumf (minimumf p4 p6) (minimumf p5 p7)) shapeCasts_S512x128_S512x1x128⟩,
        ⟨S512x1x128, shapeCast S512x1x128 (minimumf (minimumf p4 p6) (minimumf p5 p7)) shapeCasts_S512x128_S512x1x128⟩])
      concatenates_S512x1x128_S512x1x128_S512x1x128_S512x1x128_S512x1x128_S512x1x128_S512x1x128_S512x1x128_S512x8x128_d1)
      shapeCasts_S512x8x128_S4096x128) (pos whole) fun l => st 9 (st 10 (v l)) := by
  have e (h : ℕ) (hh : h < 8) (k : S512x8x128.Slices ![0, h, 0] S512x1x128) := plane8 (n := 512) rfl hx h hh
    (h1 := shapeCasts_S4096x128_S512x8x128) (h2 := k) (h3 := shapeCasts_S512x1x128_S512x128)
  have a := quad 0 (Or.inl rfl) (e 0 (by decide) slices_S512x8x128_o0_0_0_S512x1x128) (e 1 (by decide) slices_S512x8x128_o0_1_0_S512x1x128)
    (e 2 (by decide) slices_S512x8x128_o0_2_0_S512x1x128) (e 3 (by decide) slices_S512x8x128_o0_3_0_S512x1x128)
  have b := quad 4 (Or.inr rfl) (e 4 (by decide) slices_S512x8x128_o0_4_0_S512x1x128) (e 5 (by decide) slices_S512x8x128_o0_5_0_S512x1x128)
    (e 6 (by decide) slices_S512x8x128_o0_6_0_S512x1x128) (e 7 (by decide) slices_S512x8x128_o0_7_0_S512x1x128)
  exact stack8 (n := 512) rfl a.1 a.2.1 a.2.2.1 a.2.2.2 b.1 b.2.1 b.2.2.1 b.2.2.2

/-- The array sorted in blocks of 2048 positions, signed for the last merge. -/
theorem state11 {w : IVec S4096x1 32} {a b c d : FVec Ideal S64x16x128 .f32} (hw : Word w (pos whole))
    (hx : Lay (k0_pay68 w a b c d) (pos whole) fun l => lev 10 (v l)) :
    Lay (let x := k0_pay68 w a b c d
      let p := k0_pay69 w a b c d
      let q := k0_pay70 w a b c d
      let r := k0_pay71 w a b c d
      let e := k0_pay81 x p q r
      let f := k0_pay82 x p q r
      let g := k0_pay83 x p q r
      let h := k0_pay84 x p q r
      k0_pay90 w (k0_pay86 e f g h) (k0_pay87 e f g h) (k0_pay88 e f g h) (k0_pay89 e f g h)) (pos whole)
      fun l j => run 11 (lev 10 (v l)) j * sg 11 j := by
  dsimp only [k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90]
  refine Lay.mulSg ?_ (sgn 11 (by decide) hw fun _ => rfl)
  refine step1_of (n := 4096) (a := 256) (m := 8) 0 rfl ?_ (pair1 (whole_dvd (by decide)) rfl)
  refine step2_of (n := 4096) (a := 64) (m := 16) 1 rfl ?_ (pair2 (whole_dvd (by decide)) rfl)
    (pair2' (whole_dvd (by decide)) rfl)
  refine step2_of (n := 4096) (a := 16) (m := 64) 3 rfl ?_ (pair2 (whole_dvd (by decide)) rfl)
    (pair2' (whole_dvd (by decide)) rfl)
  refine step2_of (n := 4096) (a := 4) (m := 256) 5 rfl ?_ (pair2 (whole_dvd (by decide)) rfl)
    (pair2' (whole_dvd (by decide)) rfl)
  refine step2_of (n := 4096) (a := 1) (m := 1024) 7 rfl ?_ (pair2 (whole_dvd (by decide)) rfl)
    (pair2' (whole_dvd (by decide)) rfl)
  exact octet hx

/-- Half `b` of plane `h` holds run `h + 4 * b` of the kept half. -/
theorem half_pos (h b : ℕ) (hh : h < 4) (hb : b < 2) : ∀ q < 256, pos whole ((b * 256 + q) * 8 + h) = pos kept (q * 8 + (h + 4 * b)) :=
  fun q hq => by
  rw [pos_plane whole _ h (by omega), pos_plane kept q _ (by omega)]
  unfold whole kept
  omega

/-- The halves of a plane hold positions 256 apart. -/
theorem half_pair (h : ℕ) (hh : h < 8) :
    ∀ i < 1, ∀ c < 256, Pair 8 (pos whole (((i * 2 + 0) * 256 + c) * 8 + h)) (pos whole (((i * 2 + 1) * 256 + c) * 8 + h)) :=
  fun i hi c hc => by
  rw [pos_plane whole _ h hh, pos_plane whole _ h hh]
  unfold Pair whole
  omega

/-- One plane of what is stored: run `s` of the 2048 greatest of every row, in descending order. -/
theorem state12 {w : IVec S4096x1 32} {a b c d : FVec Ideal S64x16x128 .f32}
    (hx : Lay (k0_pay90 w a b c d) (pos whole) fun l j => run 11 (lev 10 (v l)) j * sg 11 j) (s : ℕ) (hs : s < 8)
    {h2 : S256x8x128.Slices ![0, s, 0] S256x1x128} {h3 : S256x1x128.ShapeCasts S256x128} :
    Lay (shapeCast S256x128 (extractStridedSlice S256x1x128 ![0, s, 0]
      (let x := k0_pay90 w a b c d
      let p0 := k0_pay91 w a b c d
      let p1 := k0_pay92 w a b c d
      let p2 := k0_pay93 w a b c d
      let p3 := k0_pay94 w a b c d
      let p4 := k0_pay95 w a b c d
      let p5 := k0_pay96 w a b c d
      let y3 := k0_pay105 x p0 p1 p2 p3 p4 p5
      let y0 := k0_pay106 x p0 p1 p2 p3 p4 p5
      let y1 := k0_pay107 x p0 p1 p2 p3 p4 p5
      let z0 := k0_pay109 x p0 p1 p2 p3 p4 p5
      let z1 := k0_pay110 x p0 p1 p2 p3 p4 p5
      k0_pay117 (k0_pay116 (k0_pay112 y3 y0 y1 z0 z1) (k0_pay113 y3 y0 y1 z0 z1) (k0_pay114 y3 y0 y1 z0 z1)
        (k0_pay115 y3 y0 y1 z0 z1))) h2) h3) (fun q => pos kept (q * 8 + s)) fun l => sorted (v l) := by
  dsimp only [k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114,
    k0_pay115, k0_pay116, k0_pay117]
  refine plane8 (n := 256) (r := 2048) rfl ?_ s hs
  refine step2_of (n := 2048) (a := 64) (m := 8) 0 rfl ?_ (pair2 (kept_dvd (by decide)) rfl) (pair2' (kept_dvd (by decide)) rfl)
  refine step2_of (n := 2048) (a := 16) (m := 32) 2 rfl ?_ (pair2 (kept_dvd (by decide)) rfl) (pair2' (kept_dvd (by decide)) rfl)
  refine step2_of (n := 2048) (a := 4) (m := 128) 4 rfl ?_ (pair2 (kept_dvd (by decide)) rfl) (pair2' (kept_dvd (by decide)) rfl)
  refine step2_of (n := 2048) (a := 1) (m := 512) 6 rfl ?_ (pair2 (kept_dvd (by decide)) rfl) (pair2' (kept_dvd (by decide)) rfl)
  have e (h : ℕ) (hh : h < 8) (k : S512x8x128.Slices ![0, h, 0] S512x1x128) := plane8 (n := 512) rfl hx h hh
    (h1 := shapeCasts_S4096x128_S512x8x128) (h2 := k) (h3 := shapeCasts_S512x1x128_S512x128)
  have q := quad 0 (Or.inl rfl)
    (Lay.max 11 (e 0 (by decide) slices_S512x8x128_o0_0_0_S512x1x128) (e 4 (by decide) slices_S512x8x128_o0_4_0_S512x1x128) (plane_pair 2 0 4 rfl rfl (by decide)))
    (Lay.max 11 (e 1 (by decide) slices_S512x8x128_o0_1_0_S512x1x128) (e 5 (by decide) slices_S512x8x128_o0_5_0_S512x1x128) (plane_pair 2 1 5 rfl rfl (by decide)))
    (Lay.max 11 (e 2 (by decide) slices_S512x8x128_o0_2_0_S512x1x128) (e 6 (by decide) slices_S512x8x128_o0_6_0_S512x1x128) (plane_pair 2 2 6 rfl rfl (by decide)))
    (Lay.max 11 (e 3 (by decide) slices_S512x8x128_o0_3_0_S512x1x128) (e 7 (by decide) slices_S512x8x128_o0_7_0_S512x1x128) (plane_pair 2 3 7 rfl rfl (by decide)))
  have t {y : FVec Ideal S512x128 .f32} (h b : ℕ) (hh : h < 4) (hb : b < 2) {u : Fin 128 → ℕ → EReal}
      (hy : Lay y (fun q => pos whole (q * 8 + h)) u) {k1 k2 k3} := (half hy b hb (h1 := k1) (h2 := k2) (h3 := k3)).of_pos (half_pos h b hh hb)
  refine stack8 (n := 256) rfl (t 0 0 (by decide) (by decide) ?_) (t 1 0 (by decide) (by decide) ?_) (t 2 0 (by decide) (by decide) ?_)
    (t 3 0 (by decide) (by decide) ?_) (t 0 1 (by decide) (by decide) ?_) (t 1 1 (by decide) (by decide) ?_)
    (t 2 1 (by decide) (by decide) ?_) (t 3 1 (by decide) (by decide) ?_)
  · exact step1_of (n := 512) (a := 1) (m := 256) 8 rfl q.1 (half_pair 0 (by decide))
  · exact step1_of (n := 512) (a := 1) (m := 256) 8 rfl q.2.1 (half_pair 1 (by decide))
  · exact step1_of (n := 512) (a := 1) (m := 256) 8 rfl q.2.2.1 (half_pair 2 (by decide))
  · exact step1_of (n := 512) (a := 1) (m := 256) 8 rfl q.2.2.2 (half_pair 3 (by decide))
  · exact step1_of (n := 512) (a := 1) (m := 256) 8 rfl q.1 (half_pair 0 (by decide))
  · exact step1_of (n := 512) (a := 1) (m := 256) 8 rfl q.2.1 (half_pair 1 (by decide))
  · exact step1_of (n := 512) (a := 1) (m := 256) 8 rfl q.2.2.1 (half_pair 2 (by decide))
  · exact step1_of (n := 512) (a := 1) (m := 256) 8 rfl q.2.2.2 (half_pair 3 (by decide))

/-- The block as it is first laid out. -/
theorem state0 (x : FVec Ideal S128x4096 .f32) : Lay (k0_pay4 x) (pos whole) (rowOf x) := by
  dsimp only [k0_pay4]
  rw [shapeCast_self]
  have t (h : ℕ) (hh : h < 8) {k1 k2} := (load_plane x (512 * h) (by omega) (h1 := k1) (h2 := k2)).of_pos (ψ := fun q => pos whole (q * 8 + h))
    fun q _ => (pos_plane whole q h hh).symm
  exact stack8 (n := 512) rfl (t 0 (by decide)) (t 1 (by decide)) (t 2 (by decide)) (t 3 (by decide)) (t 4 (by decide)) (t 5 (by decide))
    (t 6 (by decide)) (t 7 (by decide))

end tail

end Cert.RowSort
-- ==== Proof.Body.lean ====
/- One block of the kernel: what its eight stores leave in the result's staging buffer is, row by row, the 2048 greatest
   elements of the block's row in descending order. -/
module

public import proofs.«01_k».proof.Proof.Tail
public import proofs.«01_k».proof.Proof.Gen.KernelIdeal.Value

@[expose] public section

namespace Cert.RowSort

open Idealize.ShloMosaic Idealize.ShloMosaic.TcCoe Idealize.ShloMosaic.ValueIdx Cert.KernelIdeal Cert.KernelIdeal.Gen

/-- A load of the whole staging buffer through its own shape reads what the buffer holds. -/
theorem load_eq (arg1 : Memref sig .tc .vmem S128x4096 .f32) (harg1 : arg1.IsWhole) (x0 : Vec Ideal S128x4096 .f32)
    {h1 : S128x4096.numel = S128x4096.numel} {h2} {h3} {k} :
    View.readAt (Elt Ideal) (arg1.reshape S128x4096 h1 h2 h3).view
      (Rect.unit (s := S128x4096) ![0, 0] S128x4096.size k).toLoadRect (harg1.unread x0) = x0 := by
  funext x
  refine (congrFun (harg1.read_unread x0) (Shape.reshapeEquiv h1 _)).trans (congrArg x0 ?_)
  rw [Shape.reshapeEquiv_self]
  funext a
  refine Fin.ext ?_
  match a with
  | ⟨0, _⟩ => exact (Nat.zero_add _).trans (Nat.one_mul _)
  | ⟨1, _⟩ => exact (Nat.zero_add _).trans (Nat.one_mul _)

/-- What the staging buffer of the result holds at the end, of a block `x`. -/
noncomputable def best (x : Vec Ideal S128x4096 .f32) : Vec Ideal S128x2048 .f32 := fun y => sorted (rowOf x (y 0)) (y 1).val

/-- A stored run is the block of `best` it is stored at. -/
theorem stored {z : FVec Ideal S256x128 .f32} {x : Vec Ideal S128x4096 .f32} {s : ℕ} (hs : s < 8)
    (hz : Lay z (fun q => pos kept (q * 8 + s)) fun l => sorted (rowOf x l)) {h2 : S256x128.Transposes [1, 0] S128x256}
    (o : ℕ) (ho : o = kept s) {k : ∀ a, (![0, o] : Fin 2 → ℕ) a + S128x256.size a ≤ S128x2048.size a} (y : S128x256.Idx) :
    transpose S128x256 [1, 0] z h2 y = best x ((Rect.unit (s := S128x2048) ![0, o] S128x256.size k).emb y) := by
  obtain ⟨l, r, rfl⟩ : ∃ (l : Fin 128) (r : Fin 256), y = ix2 l r := ⟨y 0, y 1, eq_ix2 y⟩
  refine (store_plane hz l r).trans ?_
  rw [pos_plane kept r.val s hs]
  unfold best
  have e0 : ((Rect.unit (s := S128x2048) ![0, o] S128x256.size k).emb (ix2 l r)) 0 = l :=
    Fin.ext (show 0 + 1 * l.val = l.val by omega)
  have e1 : (((Rect.unit (s := S128x2048) ![0, o] S128x256.size k).emb (ix2 l r)) 1).val = kept s + r.val := by
    show o + 1 * r.val = _
    omega
  rw [e0, e1]

section block

variable (c : Dev nD) (i : grid0.Coords) (arg1 : Memref sig .tc .vmem S128x4096 .f32) (harg1 : arg1.IsWhole)
  (arg2 : Memref sig .tc .vmem S128x2048 .f32) (harg2 : arg2.IsWhole)

/-- What a grid point leaves in the staging buffer of the result. -/
theorem out_eq (x0 : Vec Ideal S128x4096 .f32) : out0_A_1 c i arg1 harg1 arg2 harg2 x0 = best x0 := by
  have hw : Word kernelRun0_A.sl.r_1 (pos whole) := pos_words
  have h0 : Lay (kernelRun0_A.sl.r c arg1 harg1 x0) (pos whole) (rowOf x0) := by
    have e : kernelRun0_A.sl.v1 c arg1 harg1 x0 = x0 := load_eq arg1 harg1 x0
    unfold kernelRun0_A.sl.r
    rw [e]
    exact state0 x0
  have h1 : Lay (kernelRun0_A.sl.r_2 c arg1 harg1 x0) (pos whole) _ := state1 h0
  have h2 : Lay (kernelRun0_A.sl.r_3 c arg1 harg1 x0) (pos whole) _ := state2 hw h1
  have h3 : Lay (kernelRun0_A.sl.r_4 c arg1 harg1 x0) (pos whole) _ := state3 hw h2
  have h4 : Lay (kernelRun0_A.sl.r_5 c arg1 harg1 x0) (pos whole) _ := state4 hw h3
  have h6 : Lay (kernelRun0_A.sl.r_15 c arg1 harg1 x0) (pos whole) _ := state6 hw h4
  have h7 : Lay (kernelRun0_A.sl.r_21 c arg1 harg1 x0) (pos whole) _ := state7 hw h6
  have h8 : Lay (kernelRun0_A.sl.r_23 c arg1 harg1 x0) (pos whole) _ := state8 hw h7
  have h9 : Lay (kernelRun0_A.sl.r_26 c arg1 harg1 x0) (pos whole) _ := state9 hw h8
  have h10 : Lay (kernelRun0_A.sl.r_35 c arg1 harg1 x0) (pos whole) _ := state10 hw h9
  have h11 : Lay (kernelRun0_A.sl.r_47 c arg1 harg1 x0) (pos whole) _ := state11 hw h10
  have h12 (s : ℕ) (hs : s < 8) (k : S256x8x128.Slices ![0, s, 0] S256x1x128) :
      Lay (shapeCast S256x128 (extractStridedSlice S256x1x128 ![0, s, 0] (kernelRun0_A.sl.r_64 c arg1 harg1 x0) k)
        shapeCasts_S256x1x128_S256x128) (fun q => pos kept (q * 8 + s)) fun l => sorted (rowOf x0 l) := state12 h11 s hs
  have piece (s : ℕ) (hs : s < 8) (k1 : S256x8x128.Slices ![0, s, 0] S256x1x128) (o : ℕ) (ho : o = kept s)
      (k2 : ∀ a, (![0, o] : Fin 2 → ℕ) a + S128x256.size a ≤ S128x2048.size a) (y : S128x256.Idx) :=
    stored hs (h12 s hs k1) (h2 := transposes_S256x128_p1_0_S128x256) o ho (k := k2) y
  unfold out0_A_1
  funext y
  refine View.read_writes_apply_of_pieces (v := VO0_1) (f := VO0_1.junk) (G := best x0) _ ?_ y (cover0_A_1 c i arg1 harg1 arg2 harg2 x0 y)
  unfold kernelRun0_A
  dsimp only
  exact List.forall_mem_cons.mpr ⟨piece 7 (by decide) slices_S256x8x128_o0_7_0_S256x1x128 1792 rfl inb_S128x2048_S128x256_0_1792,
    List.forall_mem_cons.mpr ⟨piece 6 (by decide) slices_S256x8x128_o0_6_0_S256x1x128 1280 rfl inb_S128x2048_S128x256_0_1280,
    List.forall_mem_cons.mpr ⟨piece 5 (by decide) slices_S256x8x128_o0_5_0_S256x1x128 768 rfl inb_S128x2048_S128x256_0_768,
    List.forall_mem_cons.mpr ⟨piece 4 (by decide) slices_S256x8x128_o0_4_0_S256x1x128 256 rfl inb_S128x2048_S128x256_0_256,
    List.forall_mem_cons.mpr ⟨piece 3 (by decide) slices_S256x8x128_o0_3_0_S256x1x128 1536 rfl inb_S128x2048_S128x256_0_1536,
    List.forall_mem_cons.mpr ⟨piece 2 (by decide) slices_S256x8x128_o0_2_0_S256x1x128 1024 rfl inb_S128x2048_S128x256_0_1024,
    List.forall_mem_cons.mpr ⟨piece 1 (by decide) slices_S256x8x128_o0_1_0_S256x1x128 512 rfl inb_S128x2048_S128x256_0_512,
    List.forall_mem_cons.mpr ⟨piece 0 (by decide) slices_S256x8x128_o0_0_0_S256x1x128 0 rfl inb_S128x2048_S128x256_0_0,
    fun _ h => absurd h List.not_mem_nil⟩⟩⟩⟩⟩⟩⟩⟩

end block

end Cert.RowSort
-- ==== Proof.Top.lean ====
/- The reference's `top_k`: its values are, row by row, the row's elements in descending order. -/
module

public import proofs.«01_k».proof.Proof.Net
public import proofs.«01_k».proof.Proof.Gen.ReferenceIdeal.Run
public import Idealize.ShloMosaic.Lib.SortFacts
public import Idealize.ShloMosaic.Lib.ValueIdx
public import proofs.«01_k».proof.Proof.Rows

@[expose] public section

namespace Cert.RowSort

open Idealize.ShloMosaic Idealize.ShloMosaic.TcCoe Idealize.ShloMosaic.ValueIdx

/-- "Greater", as the comparator of the host's sort. -/
noncomputable abbrev above (n : ℕ) (f : Fin n → EReal) (k k' : Fin n) : Bool :=
  FloatOps.cmpfTotal (F := Ideal) (φ := .f32) .gt (f k) (f k') == 1#1

theorem above_iff {n : ℕ} (f : Fin n → EReal) (k k' : Fin n) : above n f k k' = true ↔ f k' < f k := by
  show (BitVec.ofBool (decide (f k' < f k)) == 1#1) = true ↔ _
  by_cases h : f k' < f k
  · simp [h]
  · simp [h]

theorem above_false {n : ℕ} (f : Fin n → EReal) (k k' : Fin n) : above n f k k' = false ↔ f k ≤ f k' := by
  rw [← Bool.not_eq_true, above_iff, not_lt]

/-- The host's stable sort leaves no smaller element before a greater one. -/
theorem fiber_antitone {n : ℕ} (f : Fin n → EReal) : Antitone (f ∘ sortedFrom (above n f)) := by
  intro i j hij
  rcases hij.eq_or_lt with rfl | hlt
  · exact le_rfl
  · exact (above_false f _ _).mp (sortedFrom_noInversion (above n f) (above n f)
      (fun a b h => (above_false f b a).mpr ((above_iff f a b).mp h).le) (fun _ _ h => h)
      (fun a b c h h' => (above_false f a c).mpr (((above_false f a b).mp h).trans ((above_false f b c).mp h'))) i j hlt)

/-- An entry of the host's sort along an axis. -/
theorem sortBy_apply (s : Shape) (d : ℕ) (hd : d < s.rank) {ι α : Type} (cmp : ι → ι → BitVec 1) (rows : s.Idx → ι)
    (x : s.Idx → α) (j : s.Idx) : Host.sortBy s d cmp rows x j
      = x (j.along ⟨d, hd⟩ (sortedFrom (fun k k' => cmp (rows (j.along ⟨d, hd⟩ k)) (rows (j.along ⟨d, hd⟩ k')) == 1#1) (j ⟨d, hd⟩))) := by
  unfold Host.sortBy
  rw [dif_pos hd]

/-- Of two descending rows, one a rearrangement of the other, neither is anywhere the greater: the places up to `k` would
    be sent into the places before `k`. -/
theorem descending_le {n : ℕ} (g h : Fin n → EReal) (π : Fin n → Fin n) (hπ : Function.Injective π) (e : ∀ k, g k = h (π k))
    (hg : Antitone g) (hh : Antitone h) (k : Fin n) : g k ≤ h k := by
  by_contra hlt
  rw [not_le] at hlt
  have hc : (Finset.univ.filter fun i : Fin n => i ≤ k).card ≤ (Finset.univ.filter fun i : Fin n => i < k).card := by
    refine Finset.card_le_card_of_injOn π (fun i hi => ?_) hπ.injOn
    have hik : i ≤ k := (Finset.mem_filter.mp hi).2
    refine Finset.mem_coe.mpr (Finset.mem_filter.mpr ⟨Finset.mem_univ _, ?_⟩)
    by_contra hki
    exact absurd ((e i).symm ▸ hh (not_lt.mp hki)) (not_le.mpr (hlt.trans_le (hg hik)))
  refine absurd hc (not_le.mpr (Finset.card_lt_card ((Finset.ssubset_iff_of_subset fun i hi => ?_).mpr ⟨k, ?_, ?_⟩)))
  · exact Finset.mem_filter.mpr ⟨Finset.mem_univ _, (Finset.mem_filter.mp hi).2.le⟩
  · exact Finset.mem_filter.mpr ⟨Finset.mem_univ _, le_rfl⟩
  · exact fun hk => lt_irrefl _ (Finset.mem_filter.mp hk).2

/-- A row in descending order is one row, whichever way it was sorted. -/
theorem fiber_unique {n : ℕ} (f : Fin n → EReal) (τ : Equiv.Perm (Fin n)) (h : Antitone (f ∘ τ)) (k : Fin n) :
    f (sortedFrom (above n f) k) = f (τ k) := by
  let σ : Equiv.Perm (Fin n) := Equiv.ofBijective (sortedFrom (above n f)) ⟨sortedFrom_injective _, sortedFrom_surjective _⟩
  refine le_antisymm (descending_le (f ∘ σ) (f ∘ τ) (τ.symm ∘ σ) (τ.symm.injective.comp σ.injective)
    (fun i => congrArg f (τ.apply_symm_apply _).symm) (fiber_antitone f) h k) ?_
  exact descending_le (f ∘ τ) (f ∘ σ) (σ.symm ∘ τ) (σ.symm.injective.comp τ.injective)
    (fun i => congrArg f (σ.apply_symm_apply _).symm) h (fiber_antitone f) k

theorem fiber_sorted {n : ℕ} (hn : n = 2 ^ 12) (f : Fin n → EReal) (v : ℕ → EReal) (hv : ∀ k, v k.val = f k) (k : Fin n) :
    f (sortedFrom (above n f) k) = sorted v k.val := by
  subst hn
  obtain ⟨τ, hτ⟩ := sorted_perm v
  have e : (fun j : Fin (2 ^ 12) => sorted v j.val) = f ∘ τ := funext fun j => (hτ j).trans (hv _)
  exact (fiber_unique f τ (e ▸ sorted_antitone v) k).trans (congrFun e k).symm

open Cert.ReferenceIdeal in
/-- Row `(a, b)` of a three-axis array, as a sequence. -/
noncomputable def rowAt (x : Vec Ideal S4x1024x4096 .f32) (a : Fin 4) (b : Fin 1024) (j : ℕ) : EReal :=
  if h : j < 4096 then x (ix3 a b ⟨j, h⟩) else 0

open Cert.ReferenceIdeal in
/-- An entry of `top_k`'s values. -/
theorem top_apply (x : Vec Ideal S4x1024x4096 .f32) (h : S4x1024x4096.Slices (fun _ => 0) S4x1024x2048)
    (a : Fin 4) (b : Fin 1024) (k : Fin 2048) :
    (Host.topK S4x1024x2048 2 (FloatOps.cmpfTotal (F := Ideal) (φ := .f32) .gt) x h).1 (ix3 a b k)
      = sorted (rowAt x a b) k.val := by
  have hk : k.val < 4096 := k.isLt.trans (by decide)
  unfold Host.topK
  dsimp only
  rw [Host.sort2_eq_sortBy]
  refine (extractStridedSlice_apply _ _ _ _ (ix3 a b ⟨k.val, hk⟩) (fun d => ?_)).trans ?_
  · match d with
    | ⟨0, _⟩ => exact (Nat.zero_add _).symm
    | ⟨1, _⟩ => exact (Nat.zero_add _).symm
    | ⟨2, _⟩ => exact (Nat.zero_add _).symm
  · refine (sortBy_apply S4x1024x4096 2 (by decide) _ _ _ _).trans ?_
    have hal : ∀ q : Fin 4096, (ix3 a b ⟨k.val, hk⟩ : S4x1024x4096.Idx).along (2 : Fin 3) q = ix3 a b q := by
      intro q
      funext d
      match d with
      | ⟨0, _⟩ => rfl
      | ⟨1, _⟩ => rfl
      | ⟨2, _⟩ => rfl
    have hv : ∀ q : Fin 4096, rowAt x a b q.val = x (ix3 a b q) := fun q => dif_pos q.isLt
    refine (congrArg x (hal _)).trans ?_
    refine Eq.trans ?_ (fiber_sorted (by decide) (fun q : Fin 4096 => x (ix3 a b q)) (rowAt x a b)
      hv ⟨k.val, hk⟩)
    refine congrArg (fun q : Fin 4096 => x (ix3 a b q)) ?_
    refine congrArg (fun B => sortedFrom (n := 4096) B ⟨k.val, hk⟩) ?_
    funext p q
    dsimp only
    exact congrArg₂ (fun u w => FloatOps.cmpfTotal (F := Ideal) (φ := .f32) .gt u w == 1#1)
      (congrArg x (hal p)) (congrArg x (hal q))

end Cert.RowSort
-- ==== Proof.Whole.lean ====
/- The kernel's and the reference's whole result arrays: both hold, at row `r` and place `j`, the `j`-th greatest element of
   row `r` of the argument. -/
module

public import proofs.«01_k».proof.Proof.Body
public import proofs.«01_k».proof.Proof.Top
public import Idealize.ShloMosaic.Lib.Claim

@[expose] public section

noncomputable section

namespace Cert.RowSort

open Idealize.ShloMosaic Idealize.ShloMosaic.TcCoe Idealize.ShloMosaic.ValueIdx Idealize.SL.Sem
open Cert.KernelIdeal Cert.KernelIdeal.Gen

/-- The rows counted through, as a slab and a row of it. -/
def slab (r : Fin 4096) : Fin 4 := ⟨r.val / 1024, by have := r.isLt; omega⟩
def inSlab (r : Fin 4096) : Fin 1024 := ⟨r.val % 1024, Nat.mod_lt _ (by decide)⟩

/-- What both programs return of the argument `x`. -/
def ranked (x : Vec Ideal S4x1024x4096 .f32) : Vec Ideal S4096x2048 .f32 :=
  fun i => sorted (rowAt x (slab (i 0)) (inSlab (i 0))) (i 1).val

theorem slabs_apply {n : ℕ} (x : FVec Ideal ⟨3, ![4, 1024, n]⟩ .f32)
    (h : (⟨3, ![4, 1024, n]⟩ : Shape).ShapeCasts ⟨2, ![4096, n]⟩) (r : Fin 4096) (j : Fin n) :
    shapeCast ⟨2, ![4096, n]⟩ x h (ix2 r j) = x (ix3 (slab r) (inSlab r) j) := by
  refine shapeCast_apply x h _ _ ?_
  rw [Shape.rowMajor_val_two, Shape.rowMajor_val_three]
  show (r.val / 1024 * 1024 + r.val % 1024) * n + j.val = r.val * n + j.val
  rw [Nat.div_add_mod']

/-! ### The reference -/

theorem reference_eq (x : Vec Ideal S4x1024x4096 .f32)
    (h : S4x1024x4096.Slices (fun _ => 0) Cert.ReferenceIdeal.S4x1024x2048)
    (h' : Cert.ReferenceIdeal.S4x1024x2048.ShapeCasts S4096x2048) :
    shapeCast S4096x2048 (Host.topK Cert.ReferenceIdeal.S4x1024x2048 2 (FloatOps.cmpfTotal (F := Ideal) (φ := .f32) .gt) x h).1 h'
      = ranked x := by
  funext i
  obtain ⟨r, j, rfl⟩ : ∃ (r : Fin 4096) (j : Fin 2048), i = ix2 r j := ⟨i 0, i 1, eq_ix2 i⟩
  exact (slabs_apply _ h' r j).trans (top_apply x h (slab r) (inSlab r) j)

/-! ### The kernel -/

variable (m : (ℓ : Loc nD τ sig) → Buf (Elt Ideal) ℓ)

/-- Where the blocks lie: grid point `t`'s are the 128 rows from `128 t` on. -/
theorem blocks_at : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- The row of the array at which a block's row lies. -/
def rowIn (t : Fin cfg0.N) (l : Fin 128) : Fin 4096 :=
  ⟨t.val * 128 + l.val, by have := l.isLt; have := t.isLt; have : cfg0.N = 32 := N_0; omega⟩

/-- An entry of the block a grid point fetches. -/
theorem fetched_apply (c : Dev nD) (t : Fin cfg0.N) (l : Fin 128) (j : Fin 4096) :
    (iblk m c 0 t : Vec Ideal S128x4096 .f32) (ix2 l j)
      = (m (c.tc.loc main_arg0) : Vec Ideal S4x1024x4096 .f32) (ix3 (slab (rowIn t l)) (inSlab (rowIn t l)) j) := by
  have e : (V m c main_v0 : Vec Ideal S4096x4096 .f32)
      = shapeCast S4096x4096 (m (c.tc.loc main_arg0) : Vec Ideal S4x1024x4096 .f32) shapeCasts_S4x1024x4096_S4096x4096 := by
    entry_read
    rfl
  have hi := (blocks_at t).1
  unfold iblk
  rw [View.read_apply]
  refine Eq.trans ?_ ((congrFun e (ix2 (rowIn t l) j)).trans (slabs_apply _ _ (rowIn t l) j))
  refine congrArg (V m c main_v0 : Vec Ideal S4096x4096 .f32) ?_
  funext a
  apply Fin.ext
  match a with
  | ⟨0, _⟩ => show win0_0.index t 0 * 128 + 1 * l.val = t.val * 128 + l.val; rw [hi, Nat.one_mul]; rfl
  | ⟨1, _⟩ => show win0_0.index t 1 * 4096 + 1 * j.val = j.val; rw [hi]; show 0 * 4096 + _ = _; omega

/-- What the kernel's result array holds. -/
abbrev result (c : Dev nD) : Buf (Elt Ideal) ((c : Thread nD τ).loc main_v1) := ranked (m ((c : Thread nD τ).loc main_arg0))

theorem flushed_eq (c : Dev nD) (t : Fin cfg0.N) :
    (dats m 0 c).flushed 1 t = ((cfg0.win 1).blk t).view.read (Elt Ideal) (result m c) := by
  have hi := (blocks_at t).2
  rw [Cert.KernelIdeal.Value.flushed1_A, out_eq]
  funext y
  obtain ⟨l, j, rfl⟩ : ∃ (l : Fin 128) (j : Fin 2048), y = ix2 l j := ⟨y 0, y 1, eq_ix2 y⟩
  have hrow : rowOf (iblk m c 0 t : Vec Ideal S128x4096 .f32) l
      = rowAt (m (c.tc.loc main_arg0)) (slab (rowIn t l)) (inSlab (rowIn t l)) := by
    funext k
    unfold rowOf rowAt
    by_cases hk : k < 4096
    · rw [dif_pos hk, dif_pos hk]
      exact fetched_apply m c t l ⟨k, hk⟩
    · rw [dif_neg hk, dif_neg hk]
  have hat : (((cfg0.win 1).blk t).view.emb (ix2 l j) : S4096x2048.Idx) = ix2 (rowIn t l) j := by
    funext a
    apply Fin.ext
    match a with
    | ⟨0, _⟩ => show win0_1.index t 0 * 128 + 1 * l.val = t.val * 128 + l.val; rw [hi, Nat.one_mul]; rfl
    | ⟨1, _⟩ => show win0_1.index t 1 * 2048 + 1 * j.val = j.val; rw [hi]; show 0 * 2048 + _ = _; omega
  rw [View.read_apply]
  refine Eq.trans ?_ (congrArg (ranked (m (c.tc.loc main_arg0))) hat).symm
  show sorted (rowOf (iblk m c 0 t : Vec Ideal S128x4096 .f32) l) j.val = _
  rw [hrow]
  rfl

/-- The blocks fill the array. -/
theorem final_eq (c : Dev nD) : (dats m 0 c).arrAt 1 cfg0.N = result m c :=
  (dats m 0 c).arrAt_eq_of_cover 1 (result m c) (fun t _ => flushed_eq m c t) fun i => by
    have h0 : (i 0 : Nat) < 4096 := (i 0).isLt
    have h1 : (i 1 : Nat) < 2048 := (i 1).isLt
    have hN : cfg0.N = 32 := N_0
    let t : Fin cfg0.N := ⟨(i 0 : Nat) / 128, by omega⟩
    have hi := (blocks_at t).2
    refine ⟨t, flush0_1 t, ?_⟩
    show i ∈ ((View.whole main_v1).slice (win0_1.rect t)).set
    rw [View.set_slice_whole, Rect.mem_set_unit]
    intro a
    match a with
    | ⟨0, _⟩ =>
      show win0_1.index t 0 * 128 ≤ (i 0 : Nat) ∧ (i 0 : Nat) < win0_1.index t 0 * 128 + 128
      rw [hi]
      show (i 0 : Nat) / 128 * 128 ≤ (i 0 : Nat) ∧ (i 0 : Nat) < (i 0 : Nat) / 128 * 128 + 128
      omega
    | ⟨1, _⟩ =>
      show win0_1.index t 1 * 2048 ≤ (i 1 : Nat) ∧ (i 1 : Nat) < win0_1.index t 1 * 2048 + 2048
      rw [hi]
      show 0 * 2048 ≤ (i 1 : Nat) ∧ (i 1 : Nat) < 0 * 2048 + 2048
      omega

end Cert.RowSort

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Whole
public import Idealize.ShloMosaic.Adequacy
public import Idealize.ShloMosaic.Init

@[expose] public section

noncomputable section

namespace Cert.Proof

open Idealize.ShloMosaic Idealize.SL.Sem

/-- The reference's frame: its host run read at the argument; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's sorted blocks and the reference's `top_k` are one array of extended reals. -/
theorem algebraic : Cert.algebraic_KernelIdeal_ReferenceIdeal := by
  intro m ρ m' ρ' _ hagree
  refine ⟨fun c => Cert.RowSort.result m c, ?_, ?_⟩
  · exact (θ_run Cert.KernelIdeal.defs _ _).mono (fun _ h c => ⟨(h c).1.trans (Cert.RowSort.final_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    exact (Cert.RowSort.reference_eq _ _ _).trans (congrArg Cert.RowSort.ranked (hagree c))

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
